-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = Layout.blockN ⟨3, ![4, 256, 1024]⟩ ⟨3, ![4, 512, 1024]⟩ (Layout.meshBlock [2, 2] ![[], [1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨3, ![4, 256, 1024]⟩ ⟨3, ![4, 512, 1024]⟩ (Layout.meshBlock [2, 2] ![[], [1], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 256, 1024]⟩ ⟨3, ![4, 512, 1024]⟩ (Layout.meshBlock [2, 2] ![[], [1], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![4, 256, 1024]⟩ ⟨3, ![4, 512, 1024]⟩ (Layout.meshBlock [2, 2] ![[], [1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S4x256x1024 : Shape := ⟨3, ![4, 256, 1024]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel

variable [Facts]

def fn {F : FTy → Type} [FloatOps F] (main_arg0 : FVec F S4x256x1024 .f32) (main_arg1 : FVec F S4x256x1024 .f32) (main_arg2 : FVec F S4x256x1024 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S4x256x1024 .f32 := Host.absf main_arg1
  let main_cst_0 : FVec F S_ .f32 := constant S_ .f32 0x7F800000#32
  let main_v5 : FVec F S4x256x1024 .f32 := broadcastInDim S4x256x1024 ![] bcast_S_S4x256x1024 main_cst_0
  let main_v6 : IVec S4x256x1024 1 := cmpf .olt main_v4 main_v5
  let main_c_1 : IVec S_ 1 := constantI S_ 1 1#1
  let main_v7 : IVec S_ 1 := (fun x v => Host.reduce IntOp.andi x v reducesTo_S4x256x1024_S_d0_1_2 h_S_) main_v6 main_c_1
  let main_v8 : IVec S_ 1 := andi main_v3 main_v7
  main_v8
-- ==== Pre_finite_qk_ReferenceIdeal.lean ====
abbrev S4x512x1024 : Shape := ⟨3, ![4, 512, 1024]⟩
abbrev S_ : Shape := ⟨0, ![]⟩

class Facts : Prop where
  bcast_S_S4x512x1024 : S_.BroadcastsInDim S4x512x1024 (![] : Fin 0 → Fin S4x512x1024.rank)
  reducesTo_S4x512x1024_S_d0_1_2 : S4x512x1024.ReducesTo [0, 1, 2] S_
  h_S_ : 0 < S_.numel

variable [Facts]

def fn {F : FTy → Type} [FloatOps F] (main_arg0 : FVec F S4x512x1024 .f32) (main_arg1 : FVec F S4x512x1024 .f32) (main_arg2 : FVec F S4x512x1024 .f32) : IVec S_ 1 :=
  let main_v0 : FVec F S4x512x1024 .f32 := Host.absf main_arg0
  let main_cst : FVec F S_ .f32 := constant S_ .f32 0x7F800000#32
  let main_v1 : FVec F S4x512x1024 .f32 := broadcastInDim S4x512x1024 ![] bcast_S_S4x512x1024 main_cst
  let main_v2 : IVec S4x512x1024 1 := cmpf .olt main_v0 main_v1
  let main_c : IVec S_ 1 := constantI S_ 1 1#1
  let main_v3 : IVec S_ 1 := (fun x v => Host.reduce IntOp.andi x v reducesTo_S4x512x1024_S_d0_1_2 h_S_) main_v2 main_c
  let main_v4 : FVec F S4x512x1024 .f32 := Host.absf main_arg1
  let main_cst_0 : FVec F S_ .f32 := constant S_ .f32 0x7F800000#32
  let main_v5 : FVec F S4x512x1024 .f32 := broadcastInDim S4x512x1024 ![] bcast_S_S4x512x1024 main_cst_0
  let main_v6 : IVec S4x512x1024 1 := cmpf .olt main_v4 main_v5
  let main_c_1 : IVec S_ 1 := constantI S_ 1 1#1
  let main_v7 : IVec S_ 1 := (fun x v => Host.reduce IntOp.andi x v reducesTo_S4x512x1024_S_d0_1_2 h_S_) main_v6 main_c_1
  let main_v8 : IVec S_ 1 := andi main_v3 main_v7
  main_v8
-- ==== Kernel.lean ====
abbrev S4x256x1024 : Shape := ⟨3, ![4, 256, 1024]⟩
abbrev S4x256x512 : Shape := ⟨3, ![4, 256, 512]⟩
abbrev S2x4x256x512 : Shape := ⟨4, ![2, 4, 256, 512]⟩
abbrev S3x4 : Shape := ⟨2, ![3, 4]⟩
abbrev S4 : Shape := ⟨1, ![4]⟩
abbrev S2x4 : Shape := ⟨2, ![2, 4]⟩
abbrev S1x1 : Shape := ⟨2, ![1, 1]⟩
abbrev S_ : Shape := ⟨0, ![]⟩
abbrev S1x256x1024 : Shape := ⟨3, ![1, 256, 1024]⟩
abbrev S256x1024 : Shape := ⟨2, ![256, 1024]⟩
abbrev S1x256x512 : Shape := ⟨3, ![1, 256, 512]⟩
abbrev S256x512 : Shape := ⟨2, ![256, 512]⟩
abbrev S1x1x256x512 : Shape := ⟨4, ![1, 1, 256, 512]⟩
abbrev S1x256x64 : Shape := ⟨3, ![1, 256, 64]⟩
abbrev S256x64 : Shape := ⟨2, ![256, 64]⟩
abbrev S1x1x256x64 : Shape := ⟨4, ![1, 1, 256, 64]⟩
abbrev S256x256 : Shape := ⟨2, ![256, 256]⟩
abbrev S256 : Shape := ⟨1, ![256]⟩
abbrev S256x1 : Shape := ⟨2, ![256, 1]⟩
abbrev S1 : Shape := ⟨1, ![1]⟩

abbrev nBuf : Space → Nat
  | .hbm => 4
  | .vmem => 9
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .local _ .vmem, ⟨0, _⟩ => ⟨S4x256x1024, .f32⟩
  | .local _ .vmem, ⟨1, _⟩ => ⟨S4x256x1024, .f32⟩
  | .local _ .vmem, ⟨2, _⟩ => ⟨S4x256x1024, .f32⟩
  | .local _ .vmem, ⟨3, _⟩ => ⟨S4x256x1024, .f32⟩
  | .local _ .vmem, ⟨4, _⟩ => ⟨S4x256x512, .bf16⟩
  | .local _ .vmem, ⟨5, _⟩ => ⟨S2x4x256x512, .bf16⟩
  | .local _ .vmem, ⟨6, _⟩ => ⟨S2x4x256x512, .bf16⟩
  | .local _ .vmem, ⟨7, _⟩ => ⟨S4x256x512, .bf16⟩
  | .local _ .vmem, ⟨8, _⟩ => ⟨S4x256x512, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_100 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_99 : BitVec 32 := 2#32
  let v81 : BitVec 32 := Scalar.muli v2 c2_i32_99
  let v82 : BitVec 32 := Scalar.addi c0_i32_100 v81
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_101 : BitVec 32 := 1#32
  let v83 : BitVec 32 := Scalar.muli v6 c1_i32_101
  let v84 : BitVec 32 := Scalar.addi v82 v83
  v84.toNat
def k0_dev2 (d0 : Dev nD) : Nat :=
  let c0_i32_104 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_103 : BitVec 32 := 2#32
  let v85 : BitVec 32 := Scalar.muli v7 c2_i32_103
  let v86 : BitVec 32 := Scalar.addi c0_i32_104 v85
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_105 : BitVec 32 := 1#32
  let v87 : BitVec 32 := Scalar.muli v5 c1_i32_105
  let v88 : BitVec 32 := Scalar.addi v86 v87
  v88.toNat
def k0_cond1 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_107 : BitVec 32 := 0#32
  let v89 : BitVec 1 := Scalar.cmpi .eq v2 c0_i32_107
  let v90 : BitVec 32 := Scalar.extui v89
  let c0_i32_156 : BitVec 32 := 0#32
  let v91 : BitVec 1 := Scalar.cmpi .ne v90 c0_i32_156
  v91

def k0_off1 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v104 : Index := Scalar.indexCast v5
  let c0_213 : Index := 0#32
  let c0_214 : Index := 0#32
  let c0_215 : Index := 0#32
  ![v104.toNat, 0, 0, 0]
def k0_off2 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_217 : BitVec 32 := 0#32
  let c0_i32_225 : BitVec 32 := 0#32
  let c0_i32_226 : BitVec 32 := 0#32
  ![v5.toNat, 0, 0, 0]
def k0_dev3 (d0 : Dev nD) : Nat :=
  let c0_i32_223 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_222 : BitVec 32 := 2#32
  let v108 : BitVec 32 := Scalar.muli v2 c2_i32_222
  let v109 : BitVec 32 := Scalar.addi c0_i32_223 v108
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_224 : BitVec 32 := 1#32
  let v110 : BitVec 32 := Scalar.muli v6 c1_i32_224
  let v111 : BitVec 32 := Scalar.addi v109 v110
  v111.toNat
def k0_dev4 (d0 : Dev nD) : Nat :=
  let c0_i32_246 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_245 : BitVec 32 := 2#32
  let v133 : BitVec 32 := Scalar.muli v2 c2_i32_245
  let v134 : BitVec 32 := Scalar.addi c0_i32_246 v133
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_247 : BitVec 32 := 1#32
  let v135 : BitVec 32 := Scalar.muli v6 c1_i32_247
  let v136 : BitVec 32 := Scalar.addi v134 v135
  v136.toNat
def k0_off3 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v154 : Index := Scalar.indexCast v5
  let c1_258 : Index := 1#32
  let c0_259 : Index := 0#32
  let c0_260 : Index := 0#32
  ![v154.toNat, 1, 0, 0]
def k0_off4 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_262 : BitVec 32 := 1#32
  let c0_i32_270 : BitVec 32 := 0#32
  let c0_i32_271 : BitVec 32 := 0#32
  ![v5.toNat, 1, 0, 0]
def k0_dev5 (d0 : Dev nD) : Nat :=
  let c0_i32_268 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_267 : BitVec 32 := 2#32
  let v158 : BitVec 32 := Scalar.muli v2 c2_i32_267
  let v159 : BitVec 32 := Scalar.addi c0_i32_268 v158
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_269 : BitVec 32 := 1#32
  let v160 : BitVec 32 := Scalar.muli v6 c1_i32_269
  let v161 : BitVec 32 := Scalar.addi v159 v160
  v161.toNat
def k0_dev6 (d0 : Dev nD) : Nat :=
  let c0_i32_291 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_290 : BitVec 32 := 2#32
  let v183 : BitVec 32 := Scalar.muli v2 c2_i32_290
  let v184 : BitVec 32 := Scalar.addi c0_i32_291 v183
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_292 : BitVec 32 := 1#32
  let v185 : BitVec 32 := Scalar.muli v6 c1_i32_292
  let v186 : BitVec 32 := Scalar.addi v184 v185
  v186.toNat
def k0_off5 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v204 : Index := Scalar.indexCast v5
  let c2_303 : Index := 2#32
  let c0_304 : Index := 0#32
  let c0_305 : Index := 0#32
  ![v204.toNat, 2, 0, 0]
def k0_off6 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2_i32_307 : BitVec 32 := 2#32
  let c0_i32_315 : BitVec 32 := 0#32
  let c0_i32_316 : BitVec 32 := 0#32
  ![v5.toNat, 2, 0, 0]
def k0_dev7 (d0 : Dev nD) : Nat :=
  let c0_i32_313 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_312 : BitVec 32 := 2#32
  let v208 : BitVec 32 := Scalar.muli v2 c2_i32_312
  let v209 : BitVec 32 := Scalar.addi c0_i32_313 v208
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_314 : BitVec 32 := 1#32
  let v210 : BitVec 32 := Scalar.muli v6 c1_i32_314
  let v211 : BitVec 32 := Scalar.addi v209 v210
  v211.toNat
def k0_dev8 (d0 : Dev nD) : Nat :=
  let c0_i32_336 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_335 : BitVec 32 := 2#32
  let v233 : BitVec 32 := Scalar.muli v2 c2_i32_335
  let v234 : BitVec 32 := Scalar.addi c0_i32_336 v233
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_337 : BitVec 32 := 1#32
  let v235 : BitVec 32 := Scalar.muli v6 c1_i32_337
  let v236 : BitVec 32 := Scalar.addi v234 v235
  v236.toNat
def k0_off7 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v254 : Index := Scalar.indexCast v5
  let c3_348 : Index := 3#32
  let c0_349 : Index := 0#32
  let c0_350 : Index := 0#32
  ![v254.toNat, 3, 0, 0]
def k0_off8 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c3_i32_352 : BitVec 32 := 3#32
  let c0_i32_360 : BitVec 32 := 0#32
  let c0_i32_361 : BitVec 32 := 0#32
  ![v5.toNat, 3, 0, 0]
def k0_dev9 (d0 : Dev nD) : Nat :=
  let c0_i32_358 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_357 : BitVec 32 := 2#32
  let v258 : BitVec 32 := Scalar.muli v2 c2_i32_357
  let v259 : BitVec 32 := Scalar.addi c0_i32_358 v258
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_359 : BitVec 32 := 1#32
  let v260 : BitVec 32 := Scalar.muli v6 c1_i32_359
  let v261 : BitVec 32 := Scalar.addi v259 v260
  v261.toNat
def k0_dev10 (d0 : Dev nD) : Nat :=
  let c0_i32_381 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_380 : BitVec 32 := 2#32
  let v283 : BitVec 32 := Scalar.muli v2 c2_i32_380
  let v284 : BitVec 32 := Scalar.addi c0_i32_381 v283
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_382 : BitVec 32 := 1#32
  let v285 : BitVec 32 := Scalar.muli v6 c1_i32_382
  let v286 : BitVec 32 := Scalar.addi v284 v285
  v286.toNat
def k0_dev11 (d0 : Dev nD) : Nat :=
  let c0_i32_669 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_668 : BitVec 32 := 2#32
  let v593 : BitVec 32 := Scalar.muli v7 c2_i32_668
  let v594 : BitVec 32 := Scalar.addi c0_i32_669 v593
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_670 : BitVec 32 := 1#32
  let v595 : BitVec 32 := Scalar.muli v5 c1_i32_670
  let v596 : BitVec 32 := Scalar.addi v594 v595
  v596.toNat
def k0_dev12 (d0 : Dev nD) : Nat :=
  let c0_i32_965 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_964 : BitVec 32 := 2#32
  let v903 : BitVec 32 := Scalar.muli v7 c2_i32_964
  let v904 : BitVec 32 := Scalar.addi c0_i32_965 v903
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_966 : BitVec 32 := 1#32
  let v905 : BitVec 32 := Scalar.muli v5 c1_i32_966
  let v906 : BitVec 32 := Scalar.addi v904 v905
  v906.toNat
def k0_dev13 (d0 : Dev nD) : Nat :=
  let c0_i32_1261 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1260 : BitVec 32 := 2#32
  let v1213 : BitVec 32 := Scalar.muli v7 c2_i32_1260
  let v1214 : BitVec 32 := Scalar.addi c0_i32_1261 v1213
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1262 : BitVec 32 := 1#32
  let v1215 : BitVec 32 := Scalar.muli v5 c1_i32_1262
  let v1216 : BitVec 32 := Scalar.addi v1214 v1215
  v1216.toNat
def k0_dev14 (d0 : Dev nD) : Nat :=
  let c0_i32_1557 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1556 : BitVec 32 := 2#32
  let v1523 : BitVec 32 := Scalar.muli v7 c2_i32_1556
  let v1524 : BitVec 32 := Scalar.addi c0_i32_1557 v1523
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1558 : BitVec 32 := 1#32
  let v1525 : BitVec 32 := Scalar.muli v5 c1_i32_1558
  let v1526 : BitVec 32 := Scalar.addi v1524 v1525
  v1526.toNat
def k0_cond2 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_157 : BitVec 32 := 1#32
  let v92 : BitVec 1 := Scalar.cmpi .eq v2 c1_i32_157
  let v93 : BitVec 32 := Scalar.extui v92
  let c0_i32_206 : BitVec 32 := 0#32
  let v94 : BitVec 1 := Scalar.cmpi .ne v93 c0_i32_206
  v94

def k0_off9 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v104 : Index := Scalar.indexCast v5
  let c0_212 : Index := 0#32
  let c0_213 : Index := 0#32
  let c0_214 : Index := 0#32
  ![v104.toNat, 0, 0, 0]
def k0_off10 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_216 : BitVec 32 := 0#32
  let c0_i32_224 : BitVec 32 := 0#32
  let c0_i32_225 : BitVec 32 := 0#32
  ![v5.toNat, 0, 0, 0]
def k0_dev15 (d0 : Dev nD) : Nat :=
  let c0_i32_222 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_221 : BitVec 32 := 2#32
  let v108 : BitVec 32 := Scalar.muli v2 c2_i32_221
  let v109 : BitVec 32 := Scalar.addi c0_i32_222 v108
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_223 : BitVec 32 := 1#32
  let v110 : BitVec 32 := Scalar.muli v6 c1_i32_223
  let v111 : BitVec 32 := Scalar.addi v109 v110
  v111.toNat
def k0_dev16 (d0 : Dev nD) : Nat :=
  let c0_i32_245 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_244 : BitVec 32 := 2#32
  let v133 : BitVec 32 := Scalar.muli v2 c2_i32_244
  let v134 : BitVec 32 := Scalar.addi c0_i32_245 v133
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_246 : BitVec 32 := 1#32
  let v135 : BitVec 32 := Scalar.muli v6 c1_i32_246
  let v136 : BitVec 32 := Scalar.addi v134 v135
  v136.toNat
def k0_off11 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v154 : Index := Scalar.indexCast v5
  let c1_257 : Index := 1#32
  let c0_258 : Index := 0#32
  let c0_259 : Index := 0#32
  ![v154.toNat, 1, 0, 0]
def k0_off12 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_261 : BitVec 32 := 1#32
  let c0_i32_269 : BitVec 32 := 0#32
  let c0_i32_270 : BitVec 32 := 0#32
  ![v5.toNat, 1, 0, 0]
def k0_dev17 (d0 : Dev nD) : Nat :=
  let c0_i32_267 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_266 : BitVec 32 := 2#32
  let v158 : BitVec 32 := Scalar.muli v2 c2_i32_266
  let v159 : BitVec 32 := Scalar.addi c0_i32_267 v158
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_268 : BitVec 32 := 1#32
  let v160 : BitVec 32 := Scalar.muli v6 c1_i32_268
  let v161 : BitVec 32 := Scalar.addi v159 v160
  v161.toNat
def k0_dev18 (d0 : Dev nD) : Nat :=
  let c0_i32_290 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_289 : BitVec 32 := 2#32
  let v183 : BitVec 32 := Scalar.muli v2 c2_i32_289
  let v184 : BitVec 32 := Scalar.addi c0_i32_290 v183
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_291 : BitVec 32 := 1#32
  let v185 : BitVec 32 := Scalar.muli v6 c1_i32_291
  let v186 : BitVec 32 := Scalar.addi v184 v185
  v186.toNat
def k0_off13 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v204 : Index := Scalar.indexCast v5
  let c2_302 : Index := 2#32
  let c0_303 : Index := 0#32
  let c0_304 : Index := 0#32
  ![v204.toNat, 2, 0, 0]
def k0_off14 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2_i32_306 : BitVec 32 := 2#32
  let c0_i32_314 : BitVec 32 := 0#32
  let c0_i32_315 : BitVec 32 := 0#32
  ![v5.toNat, 2, 0, 0]
def k0_dev19 (d0 : Dev nD) : Nat :=
  let c0_i32_312 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_311 : BitVec 32 := 2#32
  let v208 : BitVec 32 := Scalar.muli v2 c2_i32_311
  let v209 : BitVec 32 := Scalar.addi c0_i32_312 v208
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_313 : BitVec 32 := 1#32
  let v210 : BitVec 32 := Scalar.muli v6 c1_i32_313
  let v211 : BitVec 32 := Scalar.addi v209 v210
  v211.toNat
def k0_dev20 (d0 : Dev nD) : Nat :=
  let c0_i32_335 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_334 : BitVec 32 := 2#32
  let v233 : BitVec 32 := Scalar.muli v2 c2_i32_334
  let v234 : BitVec 32 := Scalar.addi c0_i32_335 v233
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_336 : BitVec 32 := 1#32
  let v235 : BitVec 32 := Scalar.muli v6 c1_i32_336
  let v236 : BitVec 32 := Scalar.addi v234 v235
  v236.toNat
def k0_off15 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v254 : Index := Scalar.indexCast v5
  let c3_347 : Index := 3#32
  let c0_348 : Index := 0#32
  let c0_349 : Index := 0#32
  ![v254.toNat, 3, 0, 0]
def k0_off16 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c3_i32_351 : BitVec 32 := 3#32
  let c0_i32_359 : BitVec 32 := 0#32
  let c0_i32_360 : BitVec 32 := 0#32
  ![v5.toNat, 3, 0, 0]
def k0_dev21 (d0 : Dev nD) : Nat :=
  let c0_i32_357 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_356 : BitVec 32 := 2#32
  let v258 : BitVec 32 := Scalar.muli v2 c2_i32_356
  let v259 : BitVec 32 := Scalar.addi c0_i32_357 v258
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_358 : BitVec 32 := 1#32
  let v260 : BitVec 32 := Scalar.muli v6 c1_i32_358
  let v261 : BitVec 32 := Scalar.addi v259 v260
  v261.toNat
def k0_dev22 (d0 : Dev nD) : Nat :=
  let c0_i32_380 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_379 : BitVec 32 := 2#32
  let v283 : BitVec 32 := Scalar.muli v2 c2_i32_379
  let v284 : BitVec 32 := Scalar.addi c0_i32_380 v283
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_381 : BitVec 32 := 1#32
  let v285 : BitVec 32 := Scalar.muli v6 c1_i32_381
  let v286 : BitVec 32 := Scalar.addi v284 v285
  v286.toNat
def k0_dev23 (d0 : Dev nD) : Nat :=
  let c0_i32_661 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_660 : BitVec 32 := 2#32
  let v593 : BitVec 32 := Scalar.muli v7 c2_i32_660
  let v594 : BitVec 32 := Scalar.addi c0_i32_661 v593
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_662 : BitVec 32 := 1#32
  let v595 : BitVec 32 := Scalar.muli v5 c1_i32_662
  let v596 : BitVec 32 := Scalar.addi v594 v595
  v596.toNat
def k0_dev24 (d0 : Dev nD) : Nat :=
  let c0_i32_957 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_956 : BitVec 32 := 2#32
  let v903 : BitVec 32 := Scalar.muli v7 c2_i32_956
  let v904 : BitVec 32 := Scalar.addi c0_i32_957 v903
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_958 : BitVec 32 := 1#32
  let v905 : BitVec 32 := Scalar.muli v5 c1_i32_958
  let v906 : BitVec 32 := Scalar.addi v904 v905
  v906.toNat
def k0_dev25 (d0 : Dev nD) : Nat :=
  let c0_i32_1253 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1252 : BitVec 32 := 2#32
  let v1213 : BitVec 32 := Scalar.muli v7 c2_i32_1252
  let v1214 : BitVec 32 := Scalar.addi c0_i32_1253 v1213
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1254 : BitVec 32 := 1#32
  let v1215 : BitVec 32 := Scalar.muli v5 c1_i32_1254
  let v1216 : BitVec 32 := Scalar.addi v1214 v1215
  v1216.toNat
def k0_dev26 (d0 : Dev nD) : Nat :=
  let c0_i32_1549 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1548 : BitVec 32 := 2#32
  let v1523 : BitVec 32 := Scalar.muli v7 c2_i32_1548
  let v1524 : BitVec 32 := Scalar.addi c0_i32_1549 v1523
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1550 : BitVec 32 := 1#32
  let v1525 : BitVec 32 := Scalar.muli v5 c1_i32_1550
  let v1526 : BitVec 32 := Scalar.addi v1524 v1525
  v1526.toNat
-- ==== ReferenceIdeal.lean ====
abbrev S4x512x1024 : Shape := ⟨3, ![4, 512, 1024]⟩
abbrev S4x512x16x64 : Shape := ⟨4, ![4, 512, 16, 64]⟩
abbrev S4x16x512x512 : Shape := ⟨4, ![4, 16, 512, 512]⟩
abbrev S_ : Shape := ⟨0, ![]⟩
abbrev S4x16x512 : Shape := ⟨3, ![4, 16, 512]⟩
abbrev S4x16x512x1 : Shape := ⟨4, ![4, 16, 512, 1]⟩
abbrev S4x16x64x512 : Shape := ⟨4, ![4, 16, 64, 512]⟩

abbrev nBuf : Space → Nat
  | .hbm => 24
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S4x512x16x64, .f32⟩
  | .hbm, ⟨4, _⟩ => ⟨S4x512x16x64, .f32⟩
  | .hbm, ⟨5, _⟩ => ⟨S4x512x16x64, .f32⟩
  | .hbm, ⟨6, _⟩ => ⟨S4x16x512x512, .f32⟩
  | .hbm, ⟨7, _⟩ => ⟨S_, .f32⟩
  | .hbm, ⟨8, _⟩ => ⟨S4x16x512x512, .f32⟩
  | .hbm, ⟨9, _⟩ => ⟨S4x16x512x512, .f32⟩
  | .hbm, ⟨10, _⟩ => ⟨S_, .f32⟩
  | .hbm, ⟨11, _⟩ => ⟨S4x16x512, .f32⟩
  | .hbm, ⟨12, _⟩ => ⟨S4x16x512x1, .f32⟩
  | .hbm, ⟨13, _⟩ => ⟨S4x16x512x512, .f32⟩
  | .hbm, ⟨14, _⟩ => ⟨S4x16x512x512, .f32⟩
  | .hbm, ⟨15, _⟩ => ⟨S4x16x512x512, .f32⟩
  | .hbm, ⟨16, _⟩ => ⟨S_, .f32⟩
  | .hbm, ⟨17, _⟩ => ⟨S4x16x512, .f32⟩
  | .hbm, ⟨18, _⟩ => ⟨S4x16x512x1, .f32⟩
  | .hbm, ⟨19, _⟩ => ⟨S4x16x512x512, .f32⟩
  | .hbm, ⟨20, _⟩ => ⟨S4x16x512x512, .f32⟩
  | .hbm, ⟨21, _⟩ => ⟨S4x16x64x512, .f32⟩
  | .hbm, ⟨22, _⟩ => ⟨S4x512x16x64, .f32⟩
  | .hbm, ⟨23, _⟩ => ⟨S4x512x1024, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Blocks.lean ====
/- The kernel's body cut into blocks: the gathering of one row of keys or values, the scaling of one row of queries,
   one head of one row, the sending of one row of results, its merging, and the closing waits. Each block is a program
   that ends in a program `k` the rest of the body. -/
module

public import proofs.«01_k».proof.Proof.Gen.KernelIdeal
public import proofs.«01_k».proof.Proof.Gen.KernelIdeal.Skeleton
public import proofs.«01_k».proof.Proof.Gen.KernelIdeal.Points
public import Idealize.ShloMosaic.Lib.Exec

@[expose] public section

noncomputable section

namespace Cert.KernelIdeal.Att

open Idealize.ShloMosaic Idealize.ShloMosaic.TcCoe
open Idealize.SL.Sem
open Cert.KernelIdeal Cert.KernelIdeal.Gen

variable {F : FTy → Type} [FloatOps F]

/-- A program of one TensorCore of this kernel. -/
abbrev Pg (F : FTy → Type) [FloatOps F] : Type 1 := Prog (TpuEff nD τ sig (Elt F) Λ₀ .tc) PUnit

/-! ## The buffers -/

abbrev qA : Memref sig .tc .hbm S4x256x1024 .f32 := Memref.whole main_arg0
abbrev kA : Memref sig .tc .hbm S4x256x1024 .f32 := Memref.whole main_arg1
abbrev vA : Memref sig .tc .hbm S4x256x1024 .f32 := Memref.whole main_arg2
abbrev oA : Memref sig .tc .hbm S4x256x1024 .f32 := Memref.whole main_v1
abbrev qF : Memref sig .tc .vmem S4x256x1024 .f32 := Memref.whole cc0_scratch0
abbrev kF : Memref sig .tc .vmem S4x256x1024 .f32 := Memref.whole cc0_scratch1
abbrev vF : Memref sig .tc .vmem S4x256x1024 .f32 := Memref.whole cc0_scratch2
abbrev oF : Memref sig .tc .vmem S4x256x1024 .f32 := Memref.whole cc0_scratch3
abbrev qB : Memref sig .tc .vmem S4x256x512 .bf16 := Memref.whole cc0_scratch4
abbrev kB : Memref sig .tc .vmem S2x4x256x512 .bf16 := Memref.whole cc0_scratch5
abbrev vB : Memref sig .tc .vmem S2x4x256x512 .bf16 := Memref.whole cc0_scratch6
abbrev sB : Memref sig .tc .vmem S4x256x512 .bf16 := Memref.whole cc0_scratch7
abbrev rB : Memref sig .tc .vmem S4x256x512 .bf16 := Memref.whole cc0_scratch8

/-- A DMA semaphore by its number. -/
abbrev sm (n : Nat) (h : n < 40 := by decide) : DmaSem sig := ⟨n, h⟩

/-- The semaphores: the copies in (row 0 the queries, 1 the keys, 2 the values), the copies out, and the sends and
    arrivals of the keys (`r = 0`) and values (`r = 1`) and of the results. -/
def inS (r : Fin 3) (b : Fin 4) : DmaSem sig := ⟨4 * r.val + b.val, by show _ < 40; omega⟩
def outS (b : Fin 4) : DmaSem sig := ⟨12 + b.val, by show _ < 40; omega⟩
def kvS (r : Fin 2) (b : Fin 4) : DmaSem sig := ⟨16 + 4 * r.val + b.val, by show _ < 40; omega⟩
def kvR (r : Fin 2) (b : Fin 4) : DmaSem sig := ⟨24 + 4 * r.val + b.val, by show _ < 40; omega⟩
def obS (b : Fin 4) : DmaSem sig := ⟨32 + b.val, by show _ < 40; omega⟩
def obR (b : Fin 4) : DmaSem sig := ⟨36 + b.val, by show _ < 40; omega⟩

/-! ## The rectangles are in bounds and whole words -/

theorem inbA (b : Fin 4) : ∀ a, (![b.val, 0, 0] : Fin 3 → Nat) a + S1x256x1024.size a ≤ S4x256x1024.size a := by
  revert b; decide
theorem inbH (b : Fin 4) (x : Fin 2) :
    ∀ a, (![b.val, 0, 512 * x.val] : Fin 3 → Nat) a + S1x256x512.size a ≤ S4x256x1024.size a := by
  revert b x; decide
theorem inbO (b : Fin 4) (x : Fin 2) :
    ∀ a, (![b.val, 0, 512 * (1 - x.val)] : Fin 3 → Nat) a + S1x256x512.size a ≤ S4x256x1024.size a := by
  revert b x; decide
theorem inbB (b : Fin 4) : ∀ a, (![b.val, 0, 0] : Fin 3 → Nat) a + S1x256x512.size a ≤ S4x256x512.size a := by
  revert b; decide
theorem inbJ (b : Fin 4) (j : Fin 8) :
    ∀ a, (![b.val, 0, 64 * j.val] : Fin 3 → Nat) a + S1x256x64.size a ≤ S4x256x512.size a := by
  revert b j; decide
theorem inbC (b : Fin 4) (x : Fin 2) (j : Fin 8) :
    ∀ a, (![b.val, 0, 512 * x.val + 64 * j.val] : Fin 3 → Nat) a + S1x256x64.size a ≤ S4x256x1024.size a := by
  revert b x j; decide
theorem inbK (s : Fin 2) (b : Fin 4) (j : Fin 8) :
    ∀ a, (![s.val, b.val, 0, 64 * j.val] : Fin 4 → Nat) a + S1x1x256x64.size a ≤ S2x4x256x512.size a := by
  revert s b j; decide
theorem packB (b : Fin 4) :
    (Rect.unit (s := S4x256x512) ![b.val, 0, 0] S1x256x512.size (inbB b)).PackedRows (EltTy.packing .bf16) := by
  revert b; decide
theorem wordsB (b : Fin 4) :
    (Rect.unit (s := S4x256x512) ![b.val, 0, 0] S1x256x512.size (inbB b)).WholeWords (EltTy.packing .bf16) := by
  revert b; decide
theorem packJ (b : Fin 4) (j : Fin 8) :
    (Rect.unit (s := S4x256x512) ![b.val, 0, 64 * j.val] S1x256x64.size (inbJ b j)).PackedRows (EltTy.packing .bf16) := by
  revert b j; decide

/-! ## Rows -/

/-- Row `b` of an array of 1024 lanes, as a copy takes it. -/
abbrev rowA {sp : Space} (m : Memref sig .tc sp S4x256x1024 .f32) (b : Fin 4) : Memref sig .tc sp S256x1024 .f32 :=
  (m.slice (Rect.unit (s := S4x256x1024) ![b.val, 0, 0] S1x256x1024.size (inbA b)) (fun _ => rfl)).squeeze S256x1024
    squeezes_S1x256x1024_S256x1024
/-- Row `b` of an array of 512 lanes. -/
abbrev rowB (m : Memref sig .tc .vmem S4x256x512 .bf16) (b : Fin 4) : Memref sig .tc .vmem S256x512 .bf16 :=
  (m.slice (Rect.unit (s := S4x256x512) ![b.val, 0, 0] S1x256x512.size (inbB b)) (fun _ => rfl)).squeeze S256x512
    squeezes_S1x256x512_S256x512
/-- The row at offset `o` of a gathered array. -/
abbrev rowK (m : Memref sig .tc .vmem S2x4x256x512 .bf16) (o : Fin 4 → Nat)
    (ho : ∀ a, o a + S1x1x256x512.size a ≤ S2x4x256x512.size a) : Memref sig .tc .vmem S256x512 .bf16 :=
  (m.slice (Rect.unit (s := S2x4x256x512) o S1x1x256x512.size ho) (fun _ => rfl)).squeeze S256x512
    squeezes_S1x1x256x512_S256x512

/-! ## What the blocks store -/

/-- A row of keys or values, rounded. -/
def kvPay (v : Vec F S1x256x512 .f32) : FVec F S1x1x256x512 .bf16 :=
  shapeCast S1x1x256x512 (truncf .bf16 (shapeCast S256x512 v shapeCasts_S1x256x512_S256x512) bitsLt_bf16_f32)
    shapeCasts_S256x512_S1x1x256x512
/-- A row of queries, scaled and rounded. -/
def qPay (v : Vec F S1x256x512 .f32) : FVec F S1x256x512 .bf16 :=
  shapeCast S1x256x512 (truncf .bf16 (mulf (shapeCast S256x512 v shapeCasts_S1x256x512_S256x512)
    (broadcast S256x512 (Scalar.ofBits .f32 0x3E000000#32))) bitsLt_bf16_f32) shapeCasts_S256x512_S1x256x512
/-- The exponentials of one head's scores against one half of the keys. -/
def expP (q : Vec F S1x256x64 .bf16) (k : Vec F S1x1x256x64 .bf16) : FVec F S256x256 .f32 :=
  exp (matmul (φ₁ := .bf16) (φ₂ := .bf16) dot_S256x64_S256x64_S256x256_1_1_0_0_n_n none
    (shapeCast S256x64 q shapeCasts_S1x256x64_S256x64) (shapeCast S256x64 k shapeCasts_S1x1x256x64_S256x64)
    (constant S256x256 .f32 0x00000000#32))
/-- Their sums along the keys. -/
def sumP (p : FVec F S256x256 .f32) : FVec F S256x1 .f32 :=
  shapeCast S256x1 (multiReduction .add [1] S256 p 0x00000000#32 reduces_S256x256_S256 (.inl rfl) rfl)
    shapeCasts_S256_S256x1
/-- Their product with the values. -/
def accP (p : FVec F S256x256 .f32) (v : Vec F S1x1x256x64 .bf16) : FVec F S256x64 .f32 :=
  matmul (φ₁ := .bf16) (φ₂ := .bf16) dot_S256x256_S256x64_S256x64_1_0_0_1_n_n none (truncf .bf16 p bitsLt_bf16_f32)
    (shapeCast S256x64 v shapeCasts_S1x1x256x64_S256x64) (constant S256x64 .f32 0x00000000#32)
/-- One head of one row: the products with the values over the sums. -/
def headF (q : Vec F S1x256x64 .bf16) (k0 k1 v0 v1 : Vec F S1x1x256x64 .bf16) : FVec F S256x64 .f32 :=
  divf (addf (accP (expP q k0) v0) (accP (expP q k1) v1))
    (broadcastTo S256x64 (addf (sumP (expP q k0)) (sumP (expP q k1))) broadcasts_S256x1_S256x64)
/-- As it is kept and as it is sent. -/
def headO (q : Vec F S1x256x64 .bf16) (k0 k1 v0 v1 : Vec F S1x1x256x64 .bf16) : FVec F S1x256x64 .f32 :=
  shapeCast S1x256x64 (headF q k0 k1 v0 v1) shapeCasts_S256x64_S1x256x64
def headS (q : Vec F S1x256x64 .bf16) (k0 k1 v0 v1 : Vec F S1x1x256x64 .bf16) : FVec F S1x256x64 .bf16 :=
  shapeCast S1x256x64 (truncf .bf16 (headF q k0 k1 v0 v1) bitsLt_bf16_f32) shapeCasts_S256x64_S1x256x64
/-- A row of results that arrived, widened. -/
def finPay (v : Vec F S1x256x512 .bf16) : FVec F S1x256x512 .f32 :=
  shapeCast S1x256x512 (extf .f32 (shapeCast S256x512 v shapeCasts_S1x256x512_S256x512) bitsLt_bf16_f32)
    shapeCasts_S256x512_S1x256x512

/-! ## The blocks -/

/-- Row `b` of an argument is copied in. -/
def inBlk (src : Memref sig .tc .hbm S4x256x1024 .f32) (dst : Memref sig .tc .vmem S4x256x1024 .f32) (s : DmaSem sig)
    (b : Fin 4) (k : Pg F) : Pg F :=
  .op (.enqueueDma (rowA src b) (.here (rowA dst b)) (.dma s) ((View.wordExact_bits rfl).reshape _ _)
    ((View.wordExact_bits rfl).reshape _ _) ⟨Or.inl rfl, trivial⟩) fun _ => k

/-- Row `b` of keys or values: waited for, its half of the lanes rounded into its slot at `o`, and sent. -/
def kvBlk (src : Memref sig .tc .hbm S4x256x1024 .f32) (dst : Memref sig .tc .vmem S4x256x1024 .f32)
    (buf : Memref sig .tc .vmem S2x4x256x512 .bf16) (hbuf : buf.IsWhole) (si ss sr : DmaSem sig) (b : Fin 4) (x : Fin 2)
    (o : Fin 4 → Nat) (ho : ∀ a, o a + S1x1x256x512.size a ≤ S2x4x256x512.size a)
    (hp : (Rect.unit (s := S2x4x256x512) o S1x1x256x512.size ho).PackedRows (EltTy.packing .bf16))
    (o' : Fin 4 → Nat) (ho' : ∀ a, o' a + S1x1x256x512.size a ≤ S2x4x256x512.size a)
    (hw : (Rect.unit (s := S2x4x256x512) o' S1x1x256x512.size ho').WholeWords (EltTy.packing .bf16))
    (d : Dev nD) (k : Pg F) : Pg F :=
  .op (.waitDma2 si (rowA src b) (rowA dst b) ((View.wordExact_bits rfl).reshape _ _)
    ((View.wordExact_bits rfl).reshape _ _)) fun _ =>
  .op (.load dst (Rect.unit (s := S4x256x1024) ![b.val, 0, 512 * x.val] S1x256x512.size (inbH b x)).toLoadRect
    (View.loadsAt_vmem h_S1x256x512)) fun v =>
  .op (.load buf (Rect.unit (s := S2x4x256x512) o S1x1x256x512.size ho).toLoadRect
    (View.loadsAt_vmem h_S1x1x256x512)) fun _ =>
  .op (.store buf (Rect.unit (s := S2x4x256x512) o S1x1x256x512.size ho) (kvPay v) Finset.univ
    (View.stores_vmem h_S1x1x256x512 (hbuf.storeExact_slice rfl _ hp) (fun _ => rfl)) (.inl rfl)) fun _ =>
  .op (.enqueueDma (rowK buf o' ho') (.remote (Dev.tc d) (rowK buf o' ho') (.dma ss)) (.dma sr)
    ((hbuf.wordExact_slice rfl _ hw).reshape _ _) ((hbuf.wordExact_slice rfl _ hw).reshape _ _)
    ⟨⟨rfl, Or.inl rfl⟩, trivial⟩) fun _ => k

/-- Row `b` of queries: waited for, its half of the lanes scaled and rounded; and the peer's keys and values of the
    row waited for. -/
def qBlk (b : Fin 4) (x : Fin 2)
    (o' : Fin 4 → Nat) (ho' : ∀ a, o' a + S1x1x256x512.size a ≤ S2x4x256x512.size a)
    (hw : (Rect.unit (s := S2x4x256x512) o' S1x1x256x512.size ho').WholeWords (EltTy.packing .bf16))
    (k : Pg F) : Pg F :=
  .op (.waitDma2 (inS 0 b) (rowA qA b) (rowA qF b) ((View.wordExact_bits rfl).reshape _ _)
    ((View.wordExact_bits rfl).reshape _ _)) fun _ =>
  .op (.load qF (Rect.unit (s := S4x256x1024) ![b.val, 0, 512 * x.val] S1x256x512.size (inbH b x)).toLoadRect
    (View.loadsAt_vmem h_S1x256x512)) fun v =>
  .op (.load qB (Rect.unit (s := S4x256x512) ![b.val, 0, 0] S1x256x512.size (inbB b)).toLoadRect
    (View.loadsAt_vmem h_S1x256x512)) fun _ =>
  .op (.store qB (Rect.unit (s := S4x256x512) ![b.val, 0, 0] S1x256x512.size (inbB b)) (qPay v) Finset.univ
    (View.stores_vmem h_S1x256x512 ((Memref.isWhole_whole _).storeExact_slice rfl _ (packB b)) (fun _ => rfl))
    (.inl rfl)) fun _ =>
  .op (.waitDma2 (kvR 0 b) (rowK kB o' ho') (rowK kB o' ho')
    (((Memref.isWhole_whole _).wordExact_slice rfl _ hw).reshape _ _)
    (((Memref.isWhole_whole _).wordExact_slice rfl _ hw).reshape _ _)) fun _ =>
  .op (.waitDma2 (kvR 1 b) (rowK vB o' ho') (rowK vB o' ho')
    (((Memref.isWhole_whole _).wordExact_slice rfl _ hw).reshape _ _)
    (((Memref.isWhole_whole _).wordExact_slice rfl _ hw).reshape _ _)) fun _ => k

/-- Head `j` of row `b`. -/
def headBlk (b : Fin 4) (x : Fin 2) (j : Fin 8) (k : Pg F) : Pg F :=
  .op (.load qB (Rect.unit (s := S4x256x512) ![b.val, 0, 64 * j.val] S1x256x64.size (inbJ b j)).toLoadRect
    (View.loadsAt_vmem h_S1x256x64)) fun q =>
  .op (.load kB (Rect.unit (s := S2x4x256x512) ![(0 : Fin 2).val, b.val, 0, 64 * j.val] S1x1x256x64.size (inbK 0 b j)).toLoadRect
    (View.loadsAt_vmem h_S1x1x256x64)) fun k0 =>
  .op (.load kB (Rect.unit (s := S2x4x256x512) ![(1 : Fin 2).val, b.val, 0, 64 * j.val] S1x1x256x64.size (inbK 1 b j)).toLoadRect
    (View.loadsAt_vmem h_S1x1x256x64)) fun k1 =>
  .op (.load vB (Rect.unit (s := S2x4x256x512) ![(0 : Fin 2).val, b.val, 0, 64 * j.val] S1x1x256x64.size (inbK 0 b j)).toLoadRect
    (View.loadsAt_vmem h_S1x1x256x64)) fun v0 =>
  .op (.load vB (Rect.unit (s := S2x4x256x512) ![(1 : Fin 2).val, b.val, 0, 64 * j.val] S1x1x256x64.size (inbK 1 b j)).toLoadRect
    (View.loadsAt_vmem h_S1x1x256x64)) fun v1 =>
  .op (.load oF (Rect.unit (s := S4x256x1024) ![b.val, 0, 512 * x.val + 64 * j.val] S1x256x64.size (inbC b x j)).toLoadRect
    (View.loadsAt_vmem h_S1x256x64)) fun _ =>
  .op (.store oF (Rect.unit (s := S4x256x1024) ![b.val, 0, 512 * x.val + 64 * j.val] S1x256x64.size (inbC b x j))
    (headO q k0 k1 v0 v1) Finset.univ
    (View.stores_vmem_bits_univ h_S1x256x64 rfl) (.inl rfl)) fun _ =>
  .op (.load sB (Rect.unit (s := S4x256x512) ![b.val, 0, 64 * j.val] S1x256x64.size (inbJ b j)).toLoadRect
    (View.loadsAt_vmem h_S1x256x64)) fun _ =>
  .op (.store sB (Rect.unit (s := S4x256x512) ![b.val, 0, 64 * j.val] S1x256x64.size (inbJ b j))
    (headS q k0 k1 v0 v1) Finset.univ
    (View.stores_vmem h_S1x256x64 ((Memref.isWhole_whole _).storeExact_slice rfl _ (packJ b j)) (fun _ => rfl))
    (.inl rfl)) fun _ => k

/-- Row `b` of results is sent. -/
def sendBlk (b : Fin 4) (d : Dev nD) (k : Pg F) : Pg F :=
  .op (.enqueueDma (rowB sB b) (.remote (Dev.tc d) (rowB rB b) (.dma (obS b))) (.dma (obR b))
    (((Memref.isWhole_whole _).wordExact_slice rfl _ (wordsB b)).reshape _ _)
    (((Memref.isWhole_whole _).wordExact_slice rfl _ (wordsB b)).reshape _ _)
    ⟨⟨rfl, Or.inl rfl⟩, trivial⟩) fun _ => k

/-- The peer's row `b` of results: waited for, merged, and the row copied out. -/
def finBlk (b : Fin 4) (x : Fin 2) (k : Pg F) : Pg F :=
  .op (.waitDma2 (obR b) (rowB sB b) (rowB rB b)
    (((Memref.isWhole_whole _).wordExact_slice rfl _ (wordsB b)).reshape _ _)
    (((Memref.isWhole_whole _).wordExact_slice rfl _ (wordsB b)).reshape _ _)) fun _ =>
  .op (.load rB (Rect.unit (s := S4x256x512) ![b.val, 0, 0] S1x256x512.size (inbB b)).toLoadRect
    (View.loadsAt_vmem h_S1x256x512)) fun v =>
  .op (.load oF (Rect.unit (s := S4x256x1024) ![b.val, 0, 512 * (1 - x.val)] S1x256x512.size (inbO b x)).toLoadRect
    (View.loadsAt_vmem h_S1x256x512)) fun _ =>
  .op (.store oF (Rect.unit (s := S4x256x1024) ![b.val, 0, 512 * (1 - x.val)] S1x256x512.size (inbO b x))
    (finPay v) Finset.univ (View.stores_vmem_bits_univ h_S1x256x512 rfl) (.inl rfl)) fun _ =>
  .op (.enqueueDma (rowA oF b) (.here (rowA oA b)) (.dma (outS b)) ((View.wordExact_bits rfl).reshape _ _)
    ((View.wordExact_bits rfl).reshape _ _) ⟨Or.inl rfl, trivial⟩) fun _ => k

/-- The closing waits of row `b`: the copy out and the three sends. -/
def endBlk (b : Fin 4)
    (o' : Fin 4 → Nat) (ho' : ∀ a, o' a + S1x1x256x512.size a ≤ S2x4x256x512.size a)
    (hw : (Rect.unit (s := S2x4x256x512) o' S1x1x256x512.size ho').WholeWords (EltTy.packing .bf16))
    (k : Pg F) : Pg F :=
  .op (.waitDma2 (outS b) (rowA oF b) (rowA oA b) ((View.wordExact_bits rfl).reshape _ _)
    ((View.wordExact_bits rfl).reshape _ _)) fun _ =>
  .op (.waitDma2 (kvS 0 b) (rowK kB o' ho') (rowK kB o' ho')
    (((Memref.isWhole_whole _).wordExact_slice rfl _ hw).reshape _ _)
    (((Memref.isWhole_whole _).wordExact_slice rfl _ hw).reshape _ _)) fun _ =>
  .op (.waitDma2 (kvS 1 b) (rowK vB o' ho') (rowK vB o' ho')
    (((Memref.isWhole_whole _).wordExact_slice rfl _ hw).reshape _ _)
    (((Memref.isWhole_whole _).wordExact_slice rfl _ hw).reshape _ _)) fun _ =>
  .op (.waitDma2 (obS b) (rowB rB b) (rowB sB b)
    (((Memref.isWhole_whole _).wordExact_slice rfl _ (wordsB b)).reshape _ _)
    (((Memref.isWhole_whole _).wordExact_slice rfl _ (wordsB b)).reshape _ _)) fun _ => k

/-! ## The body of one place -/

/-- What differs between the two halves of the heads: the offsets the row of keys and values is stored and sent at, and
    the devices it and the results are sent to. -/
structure Tabs where
  o : Fin 4 → Fin 4 → Nat
  ho : ∀ b a, o b a + S1x1x256x512.size a ≤ S2x4x256x512.size a
  hp : ∀ b, (Rect.unit (s := S2x4x256x512) (o b) S1x1x256x512.size (ho b)).PackedRows (EltTy.packing .bf16)
  o' : Fin 4 → Fin 4 → Nat
  ho' : ∀ b a, o' b a + S1x1x256x512.size a ≤ S2x4x256x512.size a
  hw : ∀ b, (Rect.unit (s := S2x4x256x512) (o' b) S1x1x256x512.size (ho' b)).WholeWords (EltTy.packing .bf16)
  dk : Fin 4 → Dev nD
  dv : Fin 4 → Dev nD
  dd : Fin 4 → Dev nD

/-- Row `b` of keys and values. -/
def kvRow (T : Tabs) (x : Fin 2) (b : Fin 4) (k : Pg F) : Pg F :=
  kvBlk kA kF kB (Memref.isWhole_whole _) (inS 1 b) (kvS 0 b) (kvR 0 b) b x (T.o b) (T.ho b) (T.hp b) (T.o' b) (T.ho' b) (T.hw b) (T.dk b) <|
  kvBlk vA vF vB (Memref.isWhole_whole _) (inS 2 b) (kvS 1 b) (kvR 1 b) b x (T.o b) (T.ho b) (T.hp b) (T.o' b) (T.ho' b) (T.hw b) (T.dv b) k

/-- Row `b` of queries with its eight heads, sent. -/
def attRow (T : Tabs) (x : Fin 2) (b : Fin 4) (k : Pg F) : Pg F :=
  qBlk b x (T.o' b) (T.ho' b) (T.hw b) <|
  headBlk b x 0 <| headBlk b x 1 <| headBlk b x 2 <| headBlk b x 3 <|
  headBlk b x 4 <| headBlk b x 5 <| headBlk b x 6 <| headBlk b x 7 <| sendBlk b (T.dd b) k

/-- One half of the heads. -/
def half (T : Tabs) (x : Fin 2) (k : Pg F) : Pg F :=
  kvRow T x 0 <| kvRow T x 1 <| kvRow T x 2 <| kvRow T x 3 <|
  attRow T x 0 <| attRow T x 1 <| attRow T x 2 <| attRow T x 3 <|
  finBlk 0 x <| finBlk 1 x <| finBlk 2 x <| finBlk 3 x <|
  endBlk 0 (T.o' 0) (T.ho' 0) (T.hw 0) <| endBlk 1 (T.o' 1) (T.ho' 1) (T.hw 1) <|
  endBlk 2 (T.o' 2) (T.ho' 2) (T.hw 2) <| endBlk 3 (T.o' 3) (T.ho' 3) (T.hw 3) k

/-- The tables of the places whose first coordinate is 0. -/
def tabs1 (c : Dev nD) (h : k0_cond1 c = 1#1) : Tabs where
  o := ![k0_off1 c, k0_off3 c, k0_off5 c, k0_off7 c]
  ho := by revert h; revert c; decide +kernel
  hp := by revert h; revert c; decide +kernel
  o' := ![k0_off2 c, k0_off4 c, k0_off6 c, k0_off8 c]
  ho' := by revert h; revert c; decide +kernel
  hw := by revert h; revert c; decide +kernel
  dk := ![⟨k0_dev3 c, k0_dev3_lt c h⟩, ⟨k0_dev5 c, k0_dev5_lt c h⟩, ⟨k0_dev7 c, k0_dev7_lt c h⟩, ⟨k0_dev9 c, k0_dev9_lt c h⟩]
  dv := ![⟨k0_dev4 c, k0_dev4_lt c h⟩, ⟨k0_dev6 c, k0_dev6_lt c h⟩, ⟨k0_dev8 c, k0_dev8_lt c h⟩, ⟨k0_dev10 c, k0_dev10_lt c h⟩]
  dd := ![⟨k0_dev11 c, k0_dev11_lt c h⟩, ⟨k0_dev12 c, k0_dev12_lt c h⟩, ⟨k0_dev13 c, k0_dev13_lt c h⟩, ⟨k0_dev14 c, k0_dev14_lt c h⟩]
/-- The tables of the places whose first coordinate is 1. -/
def tabs2 (c : Dev nD) (h : k0_cond2 c = 1#1) : Tabs where
  o := ![k0_off9 c, k0_off11 c, k0_off13 c, k0_off15 c]
  ho := by revert h; revert c; decide +kernel
  hp := by revert h; revert c; decide +kernel
  o' := ![k0_off10 c, k0_off12 c, k0_off14 c, k0_off16 c]
  ho' := by revert h; revert c; decide +kernel
  hw := by revert h; revert c; decide +kernel
  dk := ![⟨k0_dev15 c, k0_dev15_lt c h⟩, ⟨k0_dev17 c, k0_dev17_lt c h⟩, ⟨k0_dev19 c, k0_dev19_lt c h⟩, ⟨k0_dev21 c, k0_dev21_lt c h⟩]
  dv := ![⟨k0_dev16 c, k0_dev16_lt c h⟩, ⟨k0_dev18 c, k0_dev18_lt c h⟩, ⟨k0_dev20 c, k0_dev20_lt c h⟩, ⟨k0_dev22 c, k0_dev22_lt c h⟩]
  dd := ![⟨k0_dev23 c, k0_dev23_lt c h⟩, ⟨k0_dev24 c, k0_dev24_lt c h⟩, ⟨k0_dev25 c, k0_dev25_lt c h⟩, ⟨k0_dev26 c, k0_dev26_lt c h⟩]

/-- The copies in. -/
def inRow (b : Fin 4) (k : Pg F) : Pg F :=
  inBlk kA kF (inS 1 b) b <| inBlk vA vF (inS 2 b) b <| inBlk qA qF (inS 0 b) b k

/-- The word the printed body computes between its two conditionals. -/
def midWord (c : Dev nD) : BitVec 32 :=
  Scalar.extui (Scalar.cmpi .eq (Scalar.remsi (Scalar.divsi (Dev.word c) 2#32) 2#32) 1#32)

/-- The two conditionals, of which a device enters the one of its place. -/
def tailOf (c : Dev nD) : Pg F :=
  Prog.bind
      (if h : k0_cond1 c = 1#1 then (half (tabs1 c h) 0 (.ret ⟨⟩)).bind fun _ => .ret (midWord c) else .ret (midWord c))
      fun _ =>
    if h : k0_cond2 c = 1#1 then half (tabs2 c h) 1 (.ret ⟨⟩) else (.ret ⟨⟩ : Pg F)

/-- The whole body of device `c`. -/
def bodyOf (c : Dev nD) : Pg F :=
  .op .deviceId fun c =>
  inRow 0 <| inRow 1 <| inRow 2 <| inRow 3 <|
  .op (.semSignal (Dev.tc (⟨k0_dev1 c, k0_dev1_lt c⟩ : Dev nD)) (sig.barrier 0 rfl) 1) fun _ =>
  .op (.semSignal (Dev.tc (⟨k0_dev2 c, k0_dev2_lt c⟩ : Dev nD)) (sig.barrier 0 rfl) 1) fun _ =>
  .op (.semWait (sig.barrier 0 rfl) 2) fun _ =>
  tailOf c

end Cert.KernelIdeal.Att

end
-- ==== Proof.Contents.lean ====
/- The places of the mesh, and what every buffer of a device holds once its writer is done. -/
module

public import proofs.«01_k».proof.Proof.Blocks
public import Idealize.ShloMosaic.Lib.Tactic

@[expose] public section

noncomputable section

namespace Cert.KernelIdeal.Att

open Idealize.ShloMosaic Idealize.ShloMosaic.TcCoe
open Idealize.SL.Sem
open Cert.KernelIdeal Cert.KernelIdeal.Gen

variable {F : FTy → Type} [FloatOps F]

/-! ## The mesh: device `2 x + y` is the place `(x, y)` -/

/-- The two coordinates of a device. -/
def px (c : Dev nD) : Fin 2 := ⟨c.val / 2, by have := c.isLt; simp only [nD] at this; omega⟩
def py (c : Dev nD) : Fin 2 := ⟨c.val % 2, Nat.mod_lt _ (by decide)⟩
/-- The device at a place. -/
def dev (x y : Fin 2) : Dev nD := ⟨2 * x.val + y.val, by simp only [nD]; omega⟩
/-- The other coordinate. -/
def oth (x : Fin 2) : Fin 2 := ⟨1 - x.val, by omega⟩
/-- The neighbours along the two axes. -/
def yn (c : Dev nD) : Dev nD := dev (px c) (oth (py c))
def xn (c : Dev nD) : Dev nD := dev (oth (px c)) (py c)

theorem yn_yn (c : Dev nD) : yn (yn c) = c := by revert c; decide
theorem xn_xn (c : Dev nD) : xn (xn c) = c := by revert c; decide
theorem py_yn (c : Dev nD) : py (yn c) = oth (py c) := by revert c; decide
theorem px_yn (c : Dev nD) : px (yn c) = px c := by revert c; decide
theorem py_xn (c : Dev nD) : py (xn c) = py c := by revert c; decide
theorem px_xn (c : Dev nD) : px (xn c) = oth (px c) := by revert c; decide
theorem dev_self (c : Dev nD) : dev (px c) (py c) = c := by revert c; decide
theorem oth_oth (x : Fin 2) : oth (oth x) = x := by revert x; decide

/-! ## Rectangles -/

abbrev rA (b : Fin 4) : Rect S4x256x1024 := Rect.unit (s := S4x256x1024) ![b.val, 0, 0] S1x256x1024.size (inbA b)
abbrev rH (b : Fin 4) (x : Fin 2) : Rect S4x256x1024 := Rect.unit (s := S4x256x1024) ![b.val, 0, 512 * x.val] S1x256x512.size (inbH b x)
abbrev rO (b : Fin 4) (x : Fin 2) : Rect S4x256x1024 := Rect.unit (s := S4x256x1024) ![b.val, 0, 512 * (1 - x.val)] S1x256x512.size (inbO b x)
abbrev rB' (b : Fin 4) : Rect S4x256x512 := Rect.unit (s := S4x256x512) ![b.val, 0, 0] S1x256x512.size (inbB b)
abbrev rJ (b : Fin 4) (j : Fin 8) : Rect S4x256x512 := Rect.unit (s := S4x256x512) ![b.val, 0, 64 * j.val] S1x256x64.size (inbJ b j)
abbrev rC (b : Fin 4) (x : Fin 2) (j : Fin 8) : Rect S4x256x1024 :=
  Rect.unit (s := S4x256x1024) ![b.val, 0, 512 * x.val + 64 * j.val] S1x256x64.size (inbC b x j)
theorem inbS (s : Fin 2) (b : Fin 4) :
    ∀ a, (![s.val, b.val, 0, 0] : Fin 4 → Nat) a + S1x1x256x512.size a ≤ S2x4x256x512.size a := by
  revert s b; decide
abbrev rS (s : Fin 2) (b : Fin 4) : Rect S2x4x256x512 := Rect.unit (s := S2x4x256x512) ![s.val, b.val, 0, 0] S1x1x256x512.size (inbS s b)
abbrev rK (s : Fin 2) (b : Fin 4) (j : Fin 8) : Rect S2x4x256x512 :=
  Rect.unit (s := S2x4x256x512) ![s.val, b.val, 0, 64 * j.val] S1x1x256x64.size (inbK s b j)

/-! ## Indices -/

def ix3 {d : Fin 3 → Nat} (a : Fin (d 0)) (b : Fin (d 1)) (c : Fin (d 2)) : (⟨3, d⟩ : Shape).Idx := fun k =>
  match k with | ⟨0, _⟩ => a | ⟨1, _⟩ => b | ⟨2, _⟩ => c
def ix4 {d : Fin 4 → Nat} (a : Fin (d 0)) (b : Fin (d 1)) (c : Fin (d 2)) (e : Fin (d 3)) : (⟨4, d⟩ : Shape).Idx := fun k =>
  match k with | ⟨0, _⟩ => a | ⟨1, _⟩ => b | ⟨2, _⟩ => c | ⟨3, _⟩ => e

/-- The head of a lane and its place in the head. -/
def hd (l : Fin 512) : Fin 8 := ⟨l.val / 64, by omega⟩
def hl (l : Fin 512) : Fin 64 := ⟨l.val % 64, by omega⟩
/-- The half of a lane and its place in the half. -/
def sd (l : Fin 1024) : Fin 2 := ⟨l.val / 512, by omega⟩
def sl (l : Fin 1024) : Fin 512 := ⟨l.val % 512, by omega⟩

/-! ## What the buffers hold -/

variable (m : (ℓ : Loc nD τ sig) → Buf (Elt F) ℓ)

/-- A device's block of the arguments. -/
abbrev aQ (c : Dev nD) : Vec F S4x256x1024 .f32 := m ((c : Thread nD τ).loc main_arg0)
abbrev aK (c : Dev nD) : Vec F S4x256x1024 .f32 := m ((c : Thread nD τ).loc main_arg1)
abbrev aV (c : Dev nD) : Vec F S4x256x1024 .f32 := m ((c : Thread nD τ).loc main_arg2)

/-- Row `b` of an array at half `x` of the lanes. -/
def rowOf (X : Vec F S4x256x1024 .f32) (b : Fin 4) (x : Fin 2) : Vec F S1x256x512 .f32 := fun i => X ((rH b x).emb i)

/-- The gathered keys or values of the column of places with first coordinate `x`. -/
def gath (X : Dev nD → Vec F S4x256x1024 .f32) (x : Fin 2) : Vec F S2x4x256x512 .bf16 := fun i =>
  kvPay (rowOf (X (dev x (i 0))) (i 1) x) (ix4 (d := S1x1x256x512.size) (0 : Fin 1) (0 : Fin 1) (i 2) (i 3))
abbrev tK (c : Dev nD) : Vec F S2x4x256x512 .bf16 := gath (aK m) (px c)
abbrev tV (c : Dev nD) : Vec F S2x4x256x512 .bf16 := gath (aV m) (px c)

/-- The scaled queries. -/
def tQ (c : Dev nD) : Vec F S4x256x512 .bf16 := fun i =>
  qPay (rowOf (aQ m c) (i 0) (px c)) (ix3 (d := S1x256x512.size) (0 : Fin 1) (i 1) (i 2))

/-- What the heads load. -/
def lQ (c : Dev nD) (b : Fin 4) (j : Fin 8) : Vec F S1x256x64 .bf16 := fun i => tQ m c ((rJ b j).emb i)
def lK (c : Dev nD) (s : Fin 2) (b : Fin 4) (j : Fin 8) : Vec F S1x1x256x64 .bf16 := fun i => tK m c ((rK s b j).emb i)
def lV (c : Dev nD) (s : Fin 2) (b : Fin 4) (j : Fin 8) : Vec F S1x1x256x64 .bf16 := fun i => tV m c ((rK s b j).emb i)
def oHead (c : Dev nD) (b : Fin 4) (j : Fin 8) : FVec F S1x256x64 .f32 :=
  headO (lQ m c b j) (lK m c 0 b j) (lK m c 1 b j) (lV m c 0 b j) (lV m c 1 b j)
def sHead (c : Dev nD) (b : Fin 4) (j : Fin 8) : FVec F S1x256x64 .bf16 :=
  headS (lQ m c b j) (lK m c 0 b j) (lK m c 1 b j) (lV m c 0 b j) (lV m c 1 b j)

/-- What a device sends of its results. -/
def tS (c : Dev nD) : Vec F S4x256x512 .bf16 := fun i =>
  sHead m c (i 0) (hd (i 2)) (ix3 (d := S1x256x64.size) (0 : Fin 1) (i 1) (hl (i 2)))
/-- What it gets. -/
abbrev tR (c : Dev nD) : Vec F S4x256x512 .bf16 := tS m (xn c)
def lR (c : Dev nD) (b : Fin 4) : Vec F S1x256x512 .bf16 := fun i => tR m c ((rB' b).emb i)

/-- Its whole result. -/
def tO (c : Dev nD) : Vec F S4x256x1024 .f32 := fun i =>
  if sd (i 2) = px c then oHead m c (i 0) (hd (sl (i 2))) (ix3 (d := S1x256x64.size) (0 : Fin 1) (i 1) (hl (sl (i 2))))
  else finPay (lR m c (i 0)) (ix3 (d := S1x256x512.size) (0 : Fin 1) (i 1) (sl (i 2)))

/-! ## Read back through the rectangles they are written through -/

theorem gath_read (X : Dev nD → Vec F S4x256x1024 .f32) (x : Fin 2) (s : Fin 2) (b : Fin 4) :
    (fun i => gath X x ((rS s b).emb i)) = kvPay (rowOf (X (dev x s)) b x) := by
  funext i
  have h0 : ((rS s b).emb i) 0 = s := Fin.ext (by show s.val + 1 * (i 0).val = s.val; have : (i 0).val < 1 := (i 0).isLt; omega)
  have h1 : ((rS s b).emb i) 1 = b := Fin.ext (by show b.val + 1 * (i 1).val = b.val; have : (i 1).val < 1 := (i 1).isLt; omega)
  unfold gath
  rw [h0, h1]
  congr 1
  funext a
  match a with
  | ⟨0, _⟩ => exact (Subsingleton.elim (α := Fin 1) _ _)
  | ⟨1, _⟩ => exact (Subsingleton.elim (α := Fin 1) _ _)
  | ⟨2, _⟩ => exact Fin.ext (by show 0 + 1 * (i 2).val = (i 2).val; omega)
  | ⟨3, _⟩ => exact Fin.ext (by show 0 + 1 * (i 3).val = (i 3).val; omega)

theorem tQ_read (c : Dev nD) (b : Fin 4) :
    (fun i => tQ m c ((rB' b).emb i)) = qPay (rowOf (aQ m c) b (px c)) := by
  funext i
  have h0 : ((rB' b).emb i) 0 = b := Fin.ext (by show b.val + 1 * (i 0).val = b.val; have : (i 0).val < 1 := (i 0).isLt; omega)
  unfold tQ
  rw [h0]
  congr 1
  funext a
  match a with
  | ⟨0, _⟩ => exact (Subsingleton.elim (α := Fin 1) _ _)
  | ⟨1, _⟩ => exact Fin.ext (by show 0 + 1 * (i 1).val = (i 1).val; omega)
  | ⟨2, _⟩ => exact Fin.ext (by show 0 + 1 * (i 2).val = (i 2).val; omega)

theorem tS_read (c : Dev nD) (b : Fin 4) (j : Fin 8) : (fun i => tS m c ((rJ b j).emb i)) = sHead m c b j := by
  funext i
  have h0 : ((rJ b j).emb i) 0 = b := Fin.ext (by show b.val + 1 * (i 0).val = b.val; have : (i 0).val < 1 := (i 0).isLt; omega)
  have hi : (i 2).val < 64 := (i 2).isLt
  have h2 : hd (((rJ b j).emb i) 2) = j := Fin.ext (by show (64 * j.val + 1 * (i 2).val) / 64 = j.val; omega)
  unfold tS
  rw [h0, h2]
  congr 1
  funext a
  match a with
  | ⟨0, _⟩ => exact (Subsingleton.elim (α := Fin 1) _ _)
  | ⟨1, _⟩ => exact Fin.ext (by show 0 + 1 * (i 1).val = (i 1).val; omega)
  | ⟨2, _⟩ => exact Fin.ext (by show (64 * j.val + 1 * (i 2).val) % 64 = (i 2).val; omega)

theorem tO_read_head (c : Dev nD) (b : Fin 4) (j : Fin 8) : (fun i => tO m c ((rC b (px c) j).emb i)) = oHead m c b j := by
  funext i
  have h0 : ((rC b (px c) j).emb i) 0 = b := Fin.ext (by show b.val + 1 * (i 0).val = b.val; have : (i 0).val < 1 := (i 0).isLt; omega)
  have hi : (i 2).val < 64 := (i 2).isLt
  have hs : sd (((rC b (px c) j).emb i) 2) = px c :=
    Fin.ext (by show (512 * (px c).val + 64 * j.val + 1 * (i 2).val) / 512 = (px c).val; omega)
  have h2 : hd (sl (((rC b (px c) j).emb i) 2)) = j :=
    Fin.ext (by show (512 * (px c).val + 64 * j.val + 1 * (i 2).val) % 512 / 64 = j.val; omega)
  unfold tO
  rw [if_pos hs, h0, h2]
  congr 1
  funext a
  match a with
  | ⟨0, _⟩ => exact (Subsingleton.elim (α := Fin 1) _ _)
  | ⟨1, _⟩ => exact Fin.ext (by show 0 + 1 * (i 1).val = (i 1).val; omega)
  | ⟨2, _⟩ => exact Fin.ext (by show (512 * (px c).val + 64 * j.val + 1 * (i 2).val) % 512 % 64 = (i 2).val; omega)

theorem tO_read_fin (c : Dev nD) (b : Fin 4) : (fun i => tO m c ((rO b (px c)).emb i)) = finPay (lR m c b) := by
  funext i
  have h0 : ((rO b (px c)).emb i) 0 = b := Fin.ext (by show b.val + 1 * (i 0).val = b.val; have : (i 0).val < 1 := (i 0).isLt; omega)
  have hi : (i 2).val < 512 := (i 2).isLt
  have hx : (px c).val < 2 := (px c).isLt
  have hs : sd (((rO b (px c)).emb i) 2) ≠ px c := fun h => by
    have h' : (512 * (1 - (px c).val) + 1 * (i 2).val) / 512 = (px c).val := congrArg Fin.val h
    omega
  unfold tO
  rw [if_neg hs, h0]
  congr 1
  funext a
  match a with
  | ⟨0, _⟩ => exact (Subsingleton.elim (α := Fin 1) _ _)
  | ⟨1, _⟩ => exact Fin.ext (by show 0 + 1 * (i 1).val = (i 1).val; omega)
  | ⟨2, _⟩ => exact Fin.ext (by show (512 * (1 - (px c).val) + 1 * (i 2).val) % 512 = (i 2).val; omega)

end Cert.KernelIdeal.Att

end
-- ==== Proof.Sched.lean ====
/- The protocol: who pays which semaphore, and what the payment hands over. -/
module

public import proofs.«01_k».proof.Proof.Contents
public import proofs.«01_k».proof.Proof.Gen.KernelIdeal
public import proofs.«01_k».proof.Proof.Gen.KernelIdeal.Launch
public import Idealize.ShloMosaic.Lib.Transfers
public import Idealize.ShloMosaic.Lib.Pipeline.Launch
public import Idealize.ShloMosaic.Lib.Pipeline.Kit
public import Idealize.ShloMosaic.Lib.Tactic

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The communicating cells' rounds. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local copies' counters. -/
abbrev EC : UEmb Counters (MT nD τ sig Unit (Elt F) ℕ UU ℕ) := countersEmb (U := UU)

abbrev 𝒱₀ : Variants := Variants.none

variable (m : (ℓ : Loc nD τ sig) → Buf (Elt F) ℓ) (ρ : Dev nD → PrngReg)

/-- The memory at launch. -/
def s₀ : MemSt nD τ sig (Elt F) := ⟨m, fun _ => 0, ρ⟩

/-! ## The cells -/

abbrev barS : Sem sig := sig.barrier 0 rfl
abbrev barCell (c : Dev nD) : GSem nD τ sig := ((c : Thread nD τ), .reg barS)
abbrev dmaCell (c : Dev nD) (q : DmaSem sig) : GSem nD τ sig := ((c : Thread nD τ), .dma q)

/-- The credit of one sent row. -/
abbrev N : ℕ := (rowB sB 0).view.dmaCredit
theorem N_pos : 0 < N := View.dmaCredit_pos _ (by decide)

/-! ## What a payment hands over -/

/-- The slot `(s, b)` of a gathered array, as a transfer takes it. -/
abbrev slot (M : Memref sig .tc .vmem S2x4x256x512 .bf16) (s : Fin 2) (b : Fin 4) : Memref sig .tc .vmem S256x512 .bf16 :=
  rowK M ![s.val, b.val, 0, 0] (inbS s b)

abbrev ptK (c : Dev nD) (s : Fin 2) (b : Fin 4) (q : PosShare TreeShare) (f : Vec F S2x4x256x512 .bf16) : sProp 𝕄 :=
  (slot kB s b).view.loc (c : Thread nD τ) ↦[(slot kB s b).view.set]{q} f
abbrev ptV (c : Dev nD) (s : Fin 2) (b : Fin 4) (q : PosShare TreeShare) (f : Vec F S2x4x256x512 .bf16) : sProp 𝕄 :=
  (slot vB s b).view.loc (c : Thread nD τ) ↦[(slot vB s b).view.set]{q} f
abbrev ptS (c : Dev nD) (b : Fin 4) (q : PosShare TreeShare) (f : Vec F S4x256x512 .bf16) : sProp 𝕄 :=
  (rowB sB b).view.loc (c : Thread nD τ) ↦[(rowB sB b).view.set]{q} f
abbrev ptR (c : Dev nD) (b : Fin 4) (q : PosShare TreeShare) (f : Vec F S4x256x512 .bf16) : sProp 𝕄 :=
  (rowB rB b).view.loc (c : Thread nD τ) ↦[(rowB rB b).view.set]{q} f

/-- The barrier's payment by the neighbour along `y`: its landing slots. -/
def barY (c : Dev nD) (b : Fin 4) : sProp 𝕄 :=
  iprop((∃ f, ptK (yn c) (py c) b fullShare f) ∗ (∃ f, ptV (yn c) (py c) b fullShare f))
/-- The barrier's payment by the neighbour along `x`: its landing row. -/
def barX (c : Dev nD) (b : Fin 4) : sProp 𝕄 := iprop(∃ f, ptR (xn c) b fullShare f)

/-- The payment of the DMA semaphore of number `n`. -/
def dmaPay (c : Dev nD) (n : ℕ) : sProp 𝕄 :=
  let b : Fin 4 := ⟨n % 4, Nat.mod_lt _ (by decide)⟩
  if n < 16 then iprop(emp)
  else if n < 20 then ptK c (py c) b fullShare.right (tK m c)
  else if n < 24 then ptV c (py c) b fullShare.right (tV m c)
  else if n < 28 then ptK c (oth (py c)) b fullShare (tK m c)
  else if n < 32 then ptV c (oth (py c)) b fullShare (tV m c)
  else if n < 36 then ptS c b fullShare (tS m c)
  else ptR c b fullShare (tR m c)

/-- The semaphores of the transfers between devices, and the barrier. -/
def comm : SemLoc sig → Finset Bool
  | .reg _ => Finset.univ
  | .dma q => if 16 ≤ q.val then {false} else ∅

def rd : Rounds.Schedule (GSem nD τ sig) Bool 𝕄 where
  duties g r := if r = 0 ∧ g.1.2 = .tc then comm g.2 else ∅
  unitless _ := False
  amount g _ _ := match g.2 with
    | .reg _ => 1
    | .dma _ => N
  payload g _ d := match g.2 with
    | .reg _ => if d then bigSep Finset.univ (barX g.1.1) else bigSep Finset.univ (barY g.1.1)
    | .dma q => dmaPay m g.1.1 q.val
  amount_pos g _ _ _ := by
    obtain ⟨t, s⟩ := g
    cases s
    · exact Nat.one_pos
    · exact N_pos

instance dmaPay_storable (c : Dev nD) (n : ℕ) : BI.Storable (upEmb : UEmb _ 𝕄) (dmaPay m c n) := by
  unfold dmaPay
  dsimp only
  (repeat' split) <;> infer_instance
instance barY_storable (c : Dev nD) (b : Fin 4) : BI.Storable (upEmb : UEmb _ 𝕄) (barY (F := F) c b) := by
  unfold barY; infer_instance
instance barX_storable (c : Dev nD) (b : Fin 4) : BI.Storable (upEmb : UEmb _ 𝕄) (barX (F := F) c b) := by
  unfold barX; infer_instance

instance rd_payload_storable (g : GSem nD τ sig) (r : ℕ) (d : Bool) : BI.Storable (upEmb : UEmb _ 𝕄) ((rd (F := F) m).payload g r d) := by
  obtain ⟨t, s⟩ := g
  cases s
  · show BI.Storable upEmb (if d then bigSep Finset.univ (barX t.1) else bigSep Finset.univ (barY t.1))
    split <;> infer_instance
  · exact dmaPay_storable m _ _

/-! ## The tables -/

section Tables
variable (c : Dev nD)

omit [FloatOps F] in
theorem bigSep4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem duties_bar : (rd (F := F) m).duties (barCell c) 0 = Finset.univ := by
  dsimp only [rd, comm]; exact if_pos ⟨rfl, rfl⟩
theorem duties_dma (q : DmaSem sig) (h : 16 ≤ q.val) : (rd (F := F) m).duties (dmaCell c q) 0 = {false} := by
  dsimp only [rd, comm]; rw [if_pos ⟨rfl, rfl⟩, if_pos h]
theorem duties_later (g : GSem nD τ sig) : ∀ r, 1 ≤ r → (rd (F := F) m).duties g r = ∅ :=
  fun r hr => by dsimp only [rd]; exact if_neg fun h => by omega

theorem amount_bar (d : Bool) : (rd (F := F) m).amount (barCell c) 0 d = 1 := rfl
theorem amount_dma (q : DmaSem sig) (d : Bool) : (rd (F := F) m).amount (dmaCell c q) 0 d = N := rfl

theorem expect_bar : (rd (F := F) m).expect (barCell c) 0 = 2 := by
  unfold Schedule.expect Schedule.amountOf; rw [duties_bar]; rfl
theorem expect_dma (q : DmaSem sig) (h : 16 ≤ q.val) : (rd (F := F) m).expect (dmaCell c q) 0 = N := by
  unfold Schedule.expect Schedule.amountOf; rw [duties_dma m c q h, Finset.sum_singleton, amount_dma]

theorem payload_dma (q : DmaSem sig) (d : Bool) : (rd (F := F) m).payload (dmaCell c q) 0 d = dmaPay m c q.val := rfl
theorem payload_barX : (rd (F := F) m).payload (barCell c) 0 true = bigSep Finset.univ (barX (F := F) c) := rfl
theorem payload_barY : (rd (F := F) m).payload (barCell c) 0 false = bigSep Finset.univ (barY (F := F) c) := rfl

theorem rest_dma (q : DmaSem sig) (h : 16 ≤ q.val) :
    bigSep ((rd (F := F) m).duties (dmaCell c q) 0 \ ∅) (fun u => (rd (F := F) m).payload (dmaCell c q) 0 u) = dmaPay m c q.val := by
  rw [Finset.sdiff_empty, duties_dma m c q h, bigSep_singleton, payload_dma]
theorem rest_bar :
    bigSep ((rd (F := F) m).duties (barCell c) 0 \ ∅) (fun u => (rd (F := F) m).payload (barCell c) 0 u)
      = iprop(bigSep Finset.univ (barY (F := F) c) ∗ bigSep Finset.univ (barX (F := F) c)) := by
  rw [Finset.sdiff_empty, duties_bar, bigSep_univ_eq_bigSepL [false, true] (by decide) (by decide)]; rfl

theorem pay_kS (b : Fin 4) : dmaPay m c (kvS 0 b).val = ptK c (py c) b fullShare.right (tK m c) := by fin_cases b <;> rfl
theorem pay_vS (b : Fin 4) : dmaPay m c (kvS 1 b).val = ptV c (py c) b fullShare.right (tV m c) := by fin_cases b <;> rfl
theorem pay_kR (b : Fin 4) : dmaPay m c (kvR 0 b).val = ptK c (oth (py c)) b fullShare (tK m c) := by fin_cases b <;> rfl
theorem pay_vR (b : Fin 4) : dmaPay m c (kvR 1 b).val = ptV c (oth (py c)) b fullShare (tV m c) := by fin_cases b <;> rfl
theorem pay_oS (b : Fin 4) : dmaPay m c (obS b).val = ptS c b fullShare (tS m c) := by fin_cases b <;> rfl
theorem pay_oR (b : Fin 4) : dmaPay m c (obR b).val = ptR c b fullShare (tR m c) := by fin_cases b <;> rfl

end Tables

/-! ## The transfers in their order, what is owed, and the levels -/

/-- The device a transfer goes to, and the semaphore it pays there. -/
def tgt (c : Dev nD) (j : Fin 12) : Dev nD := if j.val < 8 then yn c else xn c
def rsem (j : Fin 12) : DmaSem sig :=
  if j.val < 8 then kvR ⟨j.val % 2, Nat.mod_lt _ (by decide)⟩ ⟨j.val / 2 % 4, Nat.mod_lt _ (by decide)⟩
  else obR ⟨j.val % 4, Nat.mod_lt _ (by decide)⟩
abbrev rcell (c : Dev nD) (j : Fin 12) : GSem nD τ sig := dmaCell (tgt c j) (rsem j)

/-- What is owed by the transfers from the `n`-th on. -/
def owe (c : Dev nD) (n : ℕ) : CellTallies nD τ sig Unit := ∑ j ∈ Finset.univ.filter (fun j : Fin 12 => n ≤ j.val), tallyAt (rcell c j) () N
def O₁ (c : Dev nD) : CellTallies nD τ sig Unit := owe c 0 + tallyAt (barCell (xn c)) () 1
def O₀ (c : Dev nD) : CellTallies nD τ sig Unit := O₁ c + tallyAt (barCell (yn c)) () 1

theorem owe_step (c : Dev nD) (j : Fin 12) : owe c j.val = owe c (j.val + 1) + tallyAt (rcell c j) () N := by
  unfold owe
  rw [show Finset.univ.filter (fun i : Fin 12 => j.val ≤ i.val) = insert j (Finset.univ.filter (fun i : Fin 12 => j.val + 1 ≤ i.val)) from by
    revert j; decide, Finset.sum_insert (by simp), add_comm]
theorem owe_done (c : Dev nD) : owe c 12 = 0 := by
  unfold owe
  rw [show Finset.univ.filter (fun i : Fin 12 => 12 ≤ i.val) = ∅ from by decide, Finset.sum_empty]

theorem tally_pos {g g' : GSem nD τ sig} {k : ℕ} {u : Unit} (h : 0 < (tallyAt g' () k : CellTallies nD τ sig Unit) g u) : g = g' := by
  rw [tallyAt_apply] at h
  by_contra hn
  rw [if_neg (fun h' => hn h'.1)] at h
  exact Nat.lt_irrefl 0 h

theorem owe_pos {c : Dev nD} {n : ℕ} {g : GSem nD τ sig} {u : Unit} (h : 0 < owe c n g u) : ∃ j : Fin 12, n ≤ j.val ∧ g = rcell c j := by
  unfold owe at h
  rw [Finset.sum_apply, Finsupp.finset_sum_apply] at h
  obtain ⟨j, hj, hp⟩ := Finset.exists_ne_zero_of_sum_ne_zero (Nat.pos_iff_ne_zero.mp h)
  exact ⟨j, (Finset.mem_filter.mp hj).2, tally_pos (Nat.pos_of_ne_zero hp)⟩

theorem O₀_pos {c : Dev nD} {g : GSem nD τ sig} {u : Unit} (h : 0 < O₀ c g u) :
    (∃ j : Fin 12, g = rcell c j) ∨ g = barCell (xn c) ∨ g = barCell (yn c) := by
  unfold O₀ O₁ at h
  rw [Pi.add_apply, Finsupp.add_apply, Pi.add_apply, Finsupp.add_apply] at h
  by_cases h1 : 0 < owe c 0 g u
  · obtain ⟨j, -, e⟩ := owe_pos h1; exact .inl ⟨j, e⟩
  by_cases h2 : 0 < (tallyAt (barCell (xn c)) () 1 : CellTallies nD τ sig Unit) g u
  · exact .inr (.inl (tally_pos h2))
  · exact .inr (.inr (tally_pos (g' := barCell (yn c)) (k := 1) (u := u) (by omega)))

def L (g : GSem nD τ sig) : Finset Unit := if g.1.2 = .tc then {()} else ∅
def lvS : SemLoc sig → ℕ
  | .reg _ => 1
  | .dma q => if q.val < 24 then 0 else if q.val < 32 then 2 else if q.val < 36 then 0 else 3
def lv (g : GSem nD τ sig) (_ : Unit) : ℕ := lvS g.2
theorem L_of_ne (g : GSem nD τ sig) (h : g.1.2 ≠ .tc) : L g = ∅ := if_neg h
theorem L_tc (c : Dev nD) (s : SemLoc sig) : L ((c : Thread nD τ), s) = {()} := if_pos rfl

theorem lv_rsem (j : Fin 12) : lvS (.dma (rsem j)) = if j.val < 8 then 2 else 3 := by revert j; decide

/-- A wait at a level below everything still owed. -/
theorem may_wait (c : Dev nD) (s : SemLoc sig) (k n : ℕ) (hs : lvS s ≤ k) (hn : ∀ j : Fin 12, n ≤ j.val → k < lvS (.dma (rsem j))) :
    (levAts L lv : sProp 𝕄) ⊢ MayWait (c : Thread nD τ) s () (owe c n) :=
  MayOwe.of_cut (L := L) (lev := lv) k (fun p hp => by rw [Finset.mem_singleton.mp hp, L_tc]; exact Finset.mem_singleton_self _)
    (fun g u hg => by obtain ⟨j, -, rfl⟩ := owe_pos hg; rw [L_tc]; exact Finset.mem_singleton_self _)
    (fun p hp => by rw [Finset.mem_singleton.mp hp]; exact hs)
    (fun g u hg => by obtain ⟨j, hj, rfl⟩ := owe_pos hg; exact hn j hj)

end Cert.KernelIdeal.Att

end
-- ==== Proof.Steps.lean ====
/- One step of a block at a time: sets, contents, local copies, and the sends and arrivals of the protocol. -/
module

public import proofs.«01_k».proof.Proof.Sched

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The weakest precondition of a program of core `c`. -/
abbrev WP (c : Dev nD) (k : Pg F) (Q : PUnit → sProp 𝕄) : sProp 𝕄 :=
  wp frame (wpE (defs₀ (F := F)) 𝒱₀ (c : Thread nD τ) none) Set.univ k Q

/-! ## Sets -/

section Sets
variable {sp : Space} {s s' : Shape} {e : EltTy}

theorem set_slice_sub (M : Memref sig .tc sp s e) (r r₀ : Rect s) (h : r.set ⊆ r₀.set) :
    (M.view.slice r).set ⊆ (M.view.slice r₀).set := by
  rw [View.set_slice, View.set_slice]; exact Finset.map_subset_map.mpr h
theorem setOn_sub (M : Memref sig .tc sp s e) (r r₀ : Rect s) (h : r.set ⊆ r₀.set) :
    M.view.setOn r.set ⊆ (M.view.slice r₀).set := by
  rw [View.set_slice]; exact Finset.map_subset_map.mpr h

theorem rowA_set (M : Memref sig .tc sp S4x256x1024 .f32) (b : Fin 4) : (rowA M b).view.set = (M.view.slice (rA b)).set :=
  View.set_reshape _ _
theorem rowB_set (M : Memref sig .tc .vmem S4x256x512 .bf16) (b : Fin 4) : (rowB M b).view.set = (M.view.slice (rB' b)).set :=
  View.set_reshape _ _
theorem slot_set (M : Memref sig .tc .vmem S2x4x256x512 .bf16) (x : Fin 2) (b : Fin 4) :
    (slot M x b).view.set = (M.view.slice (rS x b)).set :=
  View.set_reshape _ _

theorem rH_sub (b : Fin 4) (x : Fin 2) : (rH b x).set ⊆ (rA b).set := fun i hi => by
  rw [Rect.mem_set_unit] at hi ⊢
  intro a
  have h0 := hi 0; have h1 := hi 1; have := (i 2).isLt
  fin_cases a
  · exact h0
  · exact h1
  · exact ⟨Nat.zero_le _, by simpa using this⟩
theorem rO_sub (b : Fin 4) (x : Fin 2) : (rO b x).set ⊆ (rA b).set := fun i hi => by
  rw [Rect.mem_set_unit] at hi ⊢
  intro a
  have h0 := hi 0; have h1 := hi 1; have := (i 2).isLt
  fin_cases a
  · exact h0
  · exact h1
  · exact ⟨Nat.zero_le _, by simpa using this⟩
theorem rC_sub (b : Fin 4) (x : Fin 2) (j : Fin 8) : (rC b x j).set ⊆ (rA b).set := fun i hi => by
  rw [Rect.mem_set_unit] at hi ⊢
  intro a
  have h0 := hi 0; have h1 := hi 1; have := (i 2).isLt
  fin_cases a
  · exact h0
  · exact h1
  · exact ⟨Nat.zero_le _, by simpa using this⟩
theorem rJ_sub (b : Fin 4) (j : Fin 8) : (rJ b j).set ⊆ (rB' b).set := fun i hi => by
  rw [Rect.mem_set_unit] at hi ⊢
  intro a
  have h0 := hi 0; have h1 := hi 1; have := (i 2).isLt
  fin_cases a
  · exact h0
  · exact h1
  · exact ⟨Nat.zero_le _, by simpa using this⟩
theorem rK_sub (x : Fin 2) (b : Fin 4) (j : Fin 8) : (rK x b j).set ⊆ (rS x b).set := fun i hi => by
  rw [Rect.mem_set_unit] at hi ⊢
  intro a
  have h0 := hi 0; have h1 := hi 1; have h2 := hi 2; have := (i 3).isLt
  fin_cases a
  · exact h0
  · exact h1
  · exact h2
  · exact ⟨Nat.zero_le _, by simpa using this⟩

end Sets

/-! ## Contents -/

/-- What is written through a view is there what the target holds, if the target reads so. -/
theorem write_on {κ : Kind} {sp : Space} {s : Shape} {e : EltTy} (v : View sig κ sp s e) (f T : v.ty.Contents (Elt F)) (w : s.Idx → Elt F e)
    (h : v.read (Elt F) T = w) : ∀ i ∈ v.set, v.write (Elt F) f w Finset.univ i = T i := by
  subst h
  intro i hi
  rw [View.write_read_eq_piecewise, Finset.piecewise_eq_of_mem _ _ _ (by rwa [View.setOn_univ])]
theorem write_off {κ : Kind} {sp : Space} {s : Shape} {e : EltTy} (v : View sig κ sp s e) (f : v.ty.Contents (Elt F)) (w : s.Idx → Elt F e)
    {i : v.ty.Idx} (h : i ∉ v.set) : v.write (Elt F) f w Finset.univ i = f i :=
  View.write_of_not_mem f w Finset.univ (by rwa [View.setOn_univ])

/-! ## The persistent context -/

def cs (k : Fin 25) : SemLoc sig := if h : k.val < 24 then .dma ⟨16 + k.val, by show _ < 40; omega⟩ else .reg barS
abbrev kcell (ck : Dev nD × Fin 25) : GSem nD τ sig := ((ck.1 : Thread nD τ), cs ck.2)

def records (K : Dev nD × Fin 25 → ℕ) : sProp 𝕄 :=
  iprop((bigSep Finset.univ fun ck : Dev nD × Fin 25 => cellInv ER (rd m) (K ck) (kcell ck))
    ∗ bigSep Finset.univ fun ck : Dev nD × Fin 25 => reached ER (kcell ck) 0)
instance records_persistent (K : Dev nD × Fin 25 → ℕ) : BI.Persistent (records m K) := by unfold records; infer_instance

/-- Every communicating cell's invariant, that each has reached its round, and the levels. -/
def ctx : sProp 𝕄 := iprop((∃ K, records m K) ∗ levAts L lv)
instance ctx_persistent : BI.Persistent (ctx m) := by unfold ctx; infer_instance

theorem cs_dma (q : DmaSem sig) (h : 16 ≤ q.val) : ∃ k, cs k = .dma q := by
  have hq : q.val < 40 := q.isLt
  refine ⟨⟨q.val - 16, by omega⟩, ?_⟩
  unfold cs
  rw [dif_pos (show q.val - 16 < 24 by omega)]
  exact congrArg SemLoc.dma (Fin.ext (by show 16 + (q.val - 16) = q.val; omega))
theorem cs_bar : cs 24 = .reg barS := rfl

theorem ctx_lev : ctx m ⊢ (levAts L lv : sProp 𝕄) := by unfold ctx; iintro ⟨-, H⟩; iexact H
theorem records_inv (K : Dev nD × Fin 25 → ℕ) (ck : Dev nD × Fin 25) :
    (bigSep Finset.univ fun ck : Dev nD × Fin 25 => cellInv ER (rd m) (K ck) (kcell ck)) ⊢ (cellInv ER (rd m) (K ck) (kcell ck) : sProp 𝕄) :=
  bigSep_elim (Finset.mem_univ ck)
theorem records_reached (ck : Dev nD × Fin 25) :
    (bigSep Finset.univ fun ck : Dev nD × Fin 25 => reached ER (kcell ck) 0) ⊢ (reached ER (kcell ck) 0 : sProp 𝕄) :=
  bigSep_elim (Finset.mem_univ ck)
theorem ctx_at (d : Dev nD) (k : Fin 25) :
    ctx m ⊢ (iprop((∃ κ, cellInv ER (rd m) κ (kcell (d, k))) ∗ reached ER (kcell (d, k)) 0) : sProp 𝕄) := by
  unfold ctx records
  iintro ⟨⟨%K, HI, HR⟩, -⟩
  isplitl [HI]
  · iexists (K (d, k)); iapply (records_inv m K (d, k)); iexact HI
  · iapply (records_reached (d, k)); iexact HR
theorem ctx_dma (d : Dev nD) (q : DmaSem sig) (h : 16 ≤ q.val) :
    ctx m ⊢ (iprop((∃ κ, cellInv ER (rd m) κ (dmaCell d q)) ∗ reached ER (dmaCell d q) 0) : sProp 𝕄) := by
  obtain ⟨k, hk⟩ := cs_dma q h
  have := ctx_at m d k
  unfold kcell at this
  rwa [hk] at this
theorem ctx_bar (d : Dev nD) :
    ctx m ⊢ (iprop((∃ κ, cellInv ER (rd m) κ (barCell d)) ∗ reached ER (barCell d) 0) : sProp 𝕄) := ctx_at m d 24

/-- A core owing `O`, whatever it has waited on. -/
def ow (c : Dev nD) (O : CellTallies nD τ sig Unit) : sProp 𝕄 := iprop(∃ W, owes (c : Thread nD τ) O W)

/-! ## Steps -/

/-- A row held, as a copy takes it. -/
abbrev ptA {sp : Space} (M : Memref sig .tc sp S4x256x1024 .f32) (c : Dev nD) (b : Fin 4) (f : Buf (Elt F) ((rowA M b).view.loc (c : Thread nD τ))) : sProp 𝕄 :=
  (rowA M b).view.loc (c : Thread nD τ) ↦[(rowA M b).view.set]{fullShare} f

/-- A copy of a row in flight. -/
abbrev flight {sp sp' : Space} (src : Memref sig .tc sp S4x256x1024 .f32) (dst : Memref sig .tc sp' S4x256x1024 .f32) (c : Dev nD) (s : DmaSem sig) (b : Fin 4)
    (fs : Buf (Elt F) ((rowA src b).view.loc (c : Thread nD τ))) (T : Buf (Elt F) ((rowA dst b).view.loc (c : Thread nD τ))) : sProp 𝕄 :=
  Flight EC (c : Thread nD τ) (.dma s) () (rowA dst b).view.dmaCredit iprop(ptA dst c b T ∗ ptA src c b fs)

theorem dma_wp {sp sp' : Space} (src : Memref sig .tc sp S4x256x1024 .f32) (dst : Memref sig .tc sp' S4x256x1024 .f32) (c : Dev nD) (s : DmaSem sig) (b : Fin 4)
    {hsrc : (rowA src b).view.WordExact} {hdst : (rowA dst b).view.WordExact} {hsem : DmaTarget.Typed (nD := nD) (τ := τ) (p := Proc.tc) sp (.dma s) (.here (rowA dst b))}
    (fs : Buf (Elt F) ((rowA src b).view.loc (c : Thread nD τ))) (fd T : Buf (Elt F) ((rowA dst b).view.loc (c : Thread nD τ)))
    (hT : (rowA dst b).view.read (Elt F) T = (rowA src b).view.read (Elt F) fs)
    (k : PUnit → Pg F) (Q : PUnit → sProp 𝕄) :
    iprop(ptA src c b fs ∗ ptA dst c b fd ∗ semVal (dmaCell c s) 0 ∗ (flight src dst c s b fs T -∗ WP c (k ⟨⟩) Q))
      ⊢ WP c (.op (.enqueueDma (rowA src b) (.here (rowA dst b)) (.dma s) hsrc hdst hsem) k) Q := by
  iintro ⟨Hs, Hd, Hv, Hk⟩
  iapply (wp_dmaLocal EC 𝒱₀ (c : Thread nD τ) none (Q := Q) (k := k) (q := fullShare) (fs := fs) (fd := fd) () (rowA dst b).view.dmaCredit rfl
    (View.dmaCredit_pos _ (by decide)) (Finset.Subset.refl _)) $$ [Hs Hd Hv]
  · isplitl [Hs]; · iexact Hs
    isplitl [Hd]; · iexact Hd
    iexact Hv
  iintro HF
  iapply Hk
  rw [pointsTo_congr (write_on (rowA dst b).view fd T _ hT)]
  iexact HF

/-- The wait of a local copy. -/
theorem wait_wp {sp sp' sp₁ sp₂ : Space} (src : Memref sig .tc sp S4x256x1024 .f32) (dst : Memref sig .tc sp' S4x256x1024 .f32) (c : Dev nD) (s : DmaSem sig) (b : Fin 4) (n : ℕ)
    (hs : s.val < 16)
    (src' : Memref sig .tc sp₁ S256x1024 .f32) (dst' : Memref sig .tc sp₂ S256x1024 .f32)
    {hsrc : src'.view.WordExact} {hdst : dst'.view.WordExact} (hN : dst'.view.dmaCredit = (rowA dst b).view.dmaCredit)
    (fs : Buf (Elt F) ((rowA src b).view.loc (c : Thread nD τ))) (T : Buf (Elt F) ((rowA dst b).view.loc (c : Thread nD τ)))
    (k : PUnit → Pg F) (Q : PUnit → sProp 𝕄) :
    iprop(ctx m ∗ flight src dst c s b fs T ∗ ow c (owe c n)
        ∗ ((ptA dst c b T ∗ ptA src c b fs ∗ semVal (dmaCell c s) 0 ∗ ow c (owe c n)) -∗ WP c (k ⟨⟩) Q))
      ⊢ WP c (.op (.waitDma2 s src' dst' hsrc hdst) k) Q := by
  unfold ow
  iintro ⟨#Hc, HF, ⟨%W, HO⟩, Hk⟩
  iapply (wp_waitLocalO EC 𝒱₀ (c : Thread nD τ) none (Q := Q) (k := k) () hN (O := owe c n) (W := W)) $$ [HF HO]
  · isplitl [HF]; · iexact HF
    isplitl [HO]; · iexact HO
    iapply (may_wait c (.dma s) 0 n (by dsimp only [lvS]; rw [if_pos (by omega)]) (fun j _ => by rw [lv_rsem]; split <;> decide))
    iapply (ctx_lev m); iexact Hc
  iintro ⟨⟨Hd, Hs⟩, Hv, HO⟩
  iapply Hk
  isplitl [Hd]; · iexact Hd
  isplitl [Hs]; · iexact Hs
  isplitl [Hv]; · iexact Hv
  iexists _; iexact HO

/-- The wait on a cell of the protocol: the payment, and the position past it. -/
theorem recv_wp {sp₁ sp₂ : Space} {s₁ s₂ : Shape} {e₁ e₂ : EltTy} (c : Dev nD) (q : DmaSem sig) (hq : 16 ≤ q.val) (n k' : ℕ)
    (hl : lvS (.dma q) ≤ k') (hn : ∀ j : Fin 12, n ≤ j.val → k' < lvS (.dma (rsem j)))
    (src' : Memref sig .tc sp₁ s₁ e₁) (dst' : Memref sig .tc sp₂ s₂ e₂)
    {hsrc : src'.view.WordExact} {hdst : dst'.view.WordExact} (hN : dst'.view.dmaCredit = N)
    (k : PUnit → Pg F) (Q : PUnit → sProp 𝕄) :
    iprop(ctx m ∗ cred (tallyAt (dmaCell c q) () N) ∗ atPos ER (dmaCell c q) 0 ∅ 0 ∗ ow c (owe c n)
        ∗ ((dmaPay m c q.val ∗ atPos ER (dmaCell c q) 1 ∅ 0 ∗ ow c (owe c n)) -∗ WP c (k ⟨⟩) Q))
      ⊢ WP c (.op (.waitDma2 q src' dst' hsrc hdst) k) Q := by
  unfold ow
  iintro ⟨#Hc, Hcr, Hat, ⟨%W, HO⟩, Hk⟩
  ihave H := (ctx_dma m c q hq) $$ Hc
  icases H with ⟨⟨%κ, #HI⟩, -⟩
  iapply (Rounds.wp_wait_rest_token 𝒱₀ ER (rd m) (c : Thread nD τ) none (κ := κ)
      (wpE_waitDma2_eq 𝒱₀ (c : Thread nD τ) none Set.univ) (Set.mem_univ _) () (O := owe c n) (W := W) (R := 0) (m := 0) (T := ∅)
      (by rw [Nat.zero_add, expect_dma m c q hq, hN])) $$ [Hcr HO Hat]
  · isplitr; · iexact HI
    isplitl [Hcr]; · rw [hN]; iexact Hcr
    isplitl [HO]; · iexact HO
    isplitr
    · iapply (may_wait c (.dma q) k' n hl hn)
      iapply (ctx_lev m); iexact Hc
    iexact Hat
  iintro ⟨HO, Hat, -, Hpay⟩
  ihave Hp := (Entails.of_eq (rest_dma m c q hq)) $$ Hpay
  iapply Hk
  isplitl [Hp]; · iexact Hp
  isplitl [Hat]; · iexact Hat
  iexists _; iexact HO

/-- The send of a row to a neighbour. -/
theorem send_wp (c d : Dev nD) (j : Fin 12) (qS qR : DmaSem sig) (hd : d = tgt c j) (hqR : qR = rsem j) (hS : 16 ≤ qS.val) (hR : 16 ≤ qR.val)
    (src dst : Memref sig .tc .vmem S256x512 .bf16) {hsc : dst.view.ref.isScScratch = false}
    {hsrc : src.view.WordExact} {hdst : dst.view.WordExact} {hsem : DmaTarget.Typed .vmem (.dma qR) (.remote (Dev.tc d : Thread nD τ) dst (.dma qS) hsc)}
    (hN : dst.view.dmaCredit = N) {q : PosShare TreeShare}
    (fs : Buf (Elt F) (src.view.loc (c : Thread nD τ))) (fd T : Buf (Elt F) (dst.view.loc (d : Thread nD τ)))
    (hT : dst.view.read (Elt F) T = src.view.read (Elt F) fs)
    (hp₁ : dmaPay m c qS.val = (src.view.loc (c : Thread nD τ) ↦[src.view.set]{q} fs))
    (hp₂ : dmaPay m d qR.val = (dst.view.loc (d : Thread nD τ) ↦[dst.view.set]{fullShare} T))
    (k : PUnit → Pg F) (Q : PUnit → sProp 𝕄) :
    iprop(ctx m ∗ (src.view.loc (c : Thread nD τ) ↦[src.view.set]{q} fs) ∗ (dst.view.loc (d : Thread nD τ) ↦[dst.view.set]{fullShare} fd)
        ∗ ow c (owe c j.val) ∗ dutyTok ER (dmaCell c qS) 0 false ∗ dutyTok ER (dmaCell d qR) 0 false
        ∗ ((cred (tallyAt (dmaCell c qS) () N) ∗ ow c (owe c (j.val + 1))) -∗ WP c (k ⟨⟩) Q))
      ⊢ WP c (.op (.enqueueDma src (.remote (Dev.tc d : Thread nD τ) dst (.dma qS) hsc) (.dma qR) hsrc hdst hsem) k) Q := by
  subst hd hqR
  unfold ow
  iintro ⟨#Hc, Hs, Hd, ⟨%W, HO⟩, Ht₁, Ht₂, Hk⟩
  ihave H := (ctx_dma m c qS hS) $$ Hc
  icases H with ⟨⟨%κ₁, #HI₁⟩, #HR₁⟩
  ihave H' := (ctx_dma m (tgt c j) (rsem j) hR) $$ Hc
  icases H' with ⟨⟨%κ₂, #HI₂⟩, #HR₂⟩
  iapply (Rounds.wp_send_pointsTo 𝒱₀ ER (rd m) (c : Thread nD τ) none (κ₁ := κ₁) (κ₂ := κ₂)
    (r₁ := 0) (r₂ := 0) (d₁ := false) (d₂ := false) (fs := fs) (fd := fd) (k := k) (Q := Q)
    (by rw [duties_dma m c qS hS]; exact Finset.mem_singleton_self _) (by rw [duties_dma m (tgt c j) (rsem j) hR]; exact Finset.mem_singleton_self _)
    () () N (show dst.view.amount (.dma (rsem j)) = N from hN) (amount_dma m c qS false) (amount_dma m (tgt c j) (rsem j) false) (owe c (j.val + 1)) (owe_step c j) (W := W)
    (by rw [payload_dma, hp₁])
    (by rw [payload_dma, hp₂, pointsTo_congr (write_on dst.view fd T _ hT)])) $$ [Hs Hd HO Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact HR₁
    isplitl [Ht₂]; · iexact Ht₂
    iexact HR₂
  iintro ⟨Hcr, HO⟩
  iapply Hk
  isplitl [Hcr]; · iexact Hcr
  iexists _; iexact HO

end Cert.KernelIdeal.Att

end
-- ==== Proof.Rows.lean ====
/- Each block of the body: what it takes and what it leaves. -/
module

public import proofs.«01_k».proof.Proof.Steps

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

/-! ## Loads and stores -/

section LoadStore
variable {s : Shape} {e : EltTy}

theorem load_wp (c : Dev nD) (M : Memref sig .tc .vmem s e) (r : LoadRect s) {hl : M.view.LoadsAt r}
    (S : Finset (Idx (M.view.loc (c : Thread nD τ)))) (hS : M.view.setOn r.set ⊆ S) {q : PosShare TreeShare}
    (f : Buf (Elt F) (M.view.loc (c : Thread nD τ))) (k : (r.shape.Idx → Elt F e) → Pg F) (Q : PUnit → sProp 𝕄) :
    iprop((M.view.loc (c : Thread nD τ) ↦[S]{q} f) ∗ ((M.view.loc (c : Thread nD τ) ↦[S]{q} f) -∗ WP c (k (M.view.readAt (Elt F) r f)) Q))
      ⊢ WP c (.op (.load M r hl) k) Q := by
  iintro ⟨H, Hk⟩
  iapply (wp_load 𝒱₀ (c : Thread nD τ) none Set.univ (Q := Q) (k := k) (hl := hl) hS) $$ [H]
  · iexact H
  iexact Hk

/-- A region at full share whose contents over `A` are the target's. -/
def upto (c : Dev nD) (M : Memref sig .tc .vmem s e) (S A : Finset (Idx (M.view.loc (c : Thread nD τ)))) (T : Buf (Elt F) (M.view.loc (c : Thread nD τ))) : sProp 𝕄 :=
  iprop(∃ f, ⌜∀ i ∈ A, f i = T i⌝ ∗ (M.view.loc (c : Thread nD τ) ↦[S]{fullShare} f))

theorem upto_start (c : Dev nD) (M : Memref sig .tc .vmem s e) (S : Finset (Idx (M.view.loc (c : Thread nD τ)))) (T : Buf (Elt F) (M.view.loc (c : Thread nD τ))) :
    iprop(∃ f, (M.view.loc (c : Thread nD τ) ↦[S]{fullShare} f)) ⊢ (upto c M S ∅ T : sProp 𝕄) := by
  unfold upto
  iintro ⟨%f, H⟩
  iexists f
  isplitr
  · ipureintro; exact fun i hi => absurd hi (Finset.notMem_empty i)
  iexact H

theorem upto_done (c : Dev nD) (M : Memref sig .tc .vmem s e) (S A : Finset (Idx (M.view.loc (c : Thread nD τ)))) (T : Buf (Elt F) (M.view.loc (c : Thread nD τ))) (h : S ⊆ A) :
    (upto c M S A T : sProp 𝕄) ⊢ (M.view.loc (c : Thread nD τ) ↦[S]{fullShare} T) := by
  unfold upto
  iintro ⟨%f, %hf, H⟩
  iapply (Entails.of_eq (pointsTo_congr (fun i hi => hf i (h hi))))
  iexact H

theorem upto_load (c : Dev nD) (M : Memref sig .tc .vmem s e) (r : LoadRect s) {hl : M.view.LoadsAt r}
    (S A : Finset (Idx (M.view.loc (c : Thread nD τ)))) (T : Buf (Elt F) (M.view.loc (c : Thread nD τ))) (hS : M.view.setOn r.set ⊆ S)
    (k : Pg F) (Q : PUnit → sProp 𝕄) :
    iprop(upto c M S A T ∗ (upto c M S A T -∗ WP c k Q)) ⊢ WP c (.op (.load M r hl) fun _ => k) Q := by
  unfold upto
  iintro ⟨⟨%f, %hf, H⟩, Hk⟩
  iapply (load_wp c M r S hS f (fun _ => k) Q)
  isplitl [H]; · iexact H
  iintro H
  iapply Hk
  iexists f
  isplitr
  · ipureintro; exact hf
  iexact H

theorem upto_store (c : Dev nD) (M : Memref sig .tc .vmem s e) (r : Rect s) (w : r.shape.Idx → Elt F e) {hx : (M.access r).Stores Finset.univ}
    {hm : (Finset.univ : Finset r.shape.Idx) = Finset.univ ∨ ∀ a, r.stride a = 1}
    (S A : Finset (Idx (M.view.loc (c : Thread nD τ)))) (T : Buf (Elt F) (M.view.loc (c : Thread nD τ))) (hS : (M.view.slice r).set ⊆ S)
    (hT : (M.view.slice r).read (Elt F) T = w) (k : PUnit → Pg F) (Q : PUnit → sProp 𝕄) :
    iprop(upto c M S A T ∗ (upto c M S (A ∪ (M.view.slice r).set) T -∗ WP c (k ⟨⟩) Q)) ⊢ WP c (.op (.store M r w Finset.univ hx hm) k) Q := by
  unfold upto
  iintro ⟨⟨%f, %hf, H⟩, Hk⟩
  iapply (wp_store 𝒱₀ (c : Thread nD τ) none Set.univ (Q := Q) (k := k) (m := M) (r := r) (w := w) (Mk := Finset.univ) (hx := hx) (hm := hm)
    (S := S) (f := f) (by rw [View.setOn_univ]; exact hS)) $$ [H]
  · iexact H
  iintro H
  iapply Hk
  iexists ((M.view.slice r).write (Elt F) f w Finset.univ)
  isplitr
  · ipureintro
    intro i hi
    by_cases h : i ∈ (M.view.slice r).set
    · exact write_on (M.view.slice r) f T w hT i h
    · rw [write_off (M.view.slice r) f w h]
      exact hf i ((Finset.mem_union.mp hi).resolve_right h)
  iexact H

end LoadStore

/-! ## A row of keys or values -/

theorem kv_wp (c : Dev nD) (src : Memref sig .tc .hbm S4x256x1024 .f32) (dst : Memref sig .tc .vmem S4x256x1024 .f32)
    (buf : Memref sig .tc .vmem S2x4x256x512 .bf16) (hbuf : buf.IsWhole) (hsc : buf.view.ref.isScScratch = false)
    (si ss sr : DmaSem sig) (b : Fin 4) (j : Fin 12)
    (hsi : si.val < 16) (hss : 16 ≤ ss.val) (hsr : 16 ≤ sr.val) (hj : j.val < 8) (hr : sr = rsem j)
    (o : Fin 4 → Nat) (ho : ∀ a, o a + S1x1x256x512.size a ≤ S2x4x256x512.size a)
    (hp : (Rect.unit (s := S2x4x256x512) o S1x1x256x512.size ho).PackedRows (EltTy.packing .bf16))
    (o' : Fin 4 → Nat) (ho' : ∀ a, o' a + S1x1x256x512.size a ≤ S2x4x256x512.size a)
    (hw : (Rect.unit (s := S2x4x256x512) o' S1x1x256x512.size ho').WholeWords (EltTy.packing .bf16))
    (d : Dev nD) (hoe : o = ![(py c).val, b.val, 0, 0]) (hoe' : o' = ![(py c).val, b.val, 0, 0]) (hd : d = yn c)
    (hN : (slot buf (py c) b).view.dmaCredit = N)
    (fs : Buf (Elt F) ((rowA src b).view.loc (c : Thread nD τ))) (TD : Buf (Elt F) ((rowA dst b).view.loc (c : Thread nD τ)))
    (X : Vec F S1x256x512 .f32) (hX : dst.view.readAt (Elt F) (rH b (px c)).toLoadRect TD = X)
    (TB : Buf (Elt F) ((slot buf (py c) b).view.loc (c : Thread nD τ))) (TB' : Buf (Elt F) ((slot buf (py c) b).view.loc (yn c : Thread nD τ)))
    (hTB : (buf.view.slice (rS (py c) b)).read (Elt F) TB = kvPay X)
    (hTB' : (slot buf (py c) b).view.read (Elt F) TB' = (slot buf (py c) b).view.read (Elt F) TB)
    (hp₁ : dmaPay m c ss.val = ((slot buf (py c) b).view.loc (c : Thread nD τ) ↦[(slot buf (py c) b).view.set]{fullShare.right} TB))
    (hp₂ : dmaPay m (yn c) sr.val = ((slot buf (py c) b).view.loc (yn c : Thread nD τ) ↦[(slot buf (py c) b).view.set]{fullShare} TB'))
    (k : Pg F) (Q : PUnit → sProp 𝕄) :
    iprop(ctx m ∗ flight src dst c si b fs TD ∗ (∃ f, (slot buf (py c) b).view.loc (c : Thread nD τ) ↦[(slot buf (py c) b).view.set]{fullShare} f)
        ∗ (∃ f, (slot buf (py c) b).view.loc (yn c : Thread nD τ) ↦[(slot buf (py c) b).view.set]{fullShare} f)
        ∗ dutyTok ER (dmaCell c ss) 0 false ∗ dutyTok ER (dmaCell (yn c) sr) 0 false ∗ ow c (owe c j.val)
        ∗ ((ptA dst c b TD ∗ ptA src c b fs ∗ semVal (dmaCell c si) 0
              ∗ ((slot buf (py c) b).view.loc (c : Thread nD τ) ↦[(slot buf (py c) b).view.set]{fullShare.left} TB)
              ∗ cred (tallyAt (dmaCell c ss) () N) ∗ ow c (owe c (j.val + 1))) -∗ WP c k Q))
      ⊢ WP c (kvBlk src dst buf hbuf si ss sr b (px c) o ho hp o' ho' hw d k) Q := by
  subst hoe hoe' hd
  unfold kvBlk
  iintro ⟨#Hc, HF, ⟨%f, Hb⟩, ⟨%fd, Hd⟩, Ht₁, Ht₂, HO, Hk⟩
  iapply (wait_wp m src dst c si b j.val hsi (rowA src b) (rowA dst b) rfl fs TD)
  isplitr; · iexact Hc
  isplitl [HF]; · iexact HF
  isplitl [HO]; · iexact HO
  iintro ⟨HD, Hs, Hv, HO⟩
  iapply (load_wp c dst (rH b (px c)).toLoadRect (rowA dst b).view.set
    (by rw [rowA_set]; exact setOn_sub dst (rH b (px c)) (rA b) (rH_sub b (px c))) TD)
  isplitl [HD]; · iexact HD
  iintro HD
  rw [hX]
  iapply (load_wp c buf (rS (py c) b).toLoadRect (slot buf (py c) b).view.set
    (by rw [slot_set]; exact setOn_sub buf (rS (py c) b) (rS (py c) b) (Finset.Subset.refl _)) f)
  isplitl [Hb]; · iexact Hb
  iintro Hb
  iapply (upto_store c buf (rS (py c) b) (kvPay X) (slot buf (py c) b).view.set ∅ TB (by rw [slot_set]) hTB)
  isplitl [Hb]
  · iapply (upto_start c buf _ TB); iexists f; iexact Hb
  iintro Hb
  ihave Hb := (upto_done c buf (slot buf (py c) b).view.set _ TB (by rw [slot_set]; exact Finset.subset_union_right)) $$ Hb
  ihave Hb := (pointsTo_share (PosShare.mem_left_op_right fullShare)).1 $$ Hb
  icases Hb with ⟨HbL, HbR⟩
  iapply (send_wp m c (yn c) j ss sr (by unfold tgt; rw [if_pos hj]) hr hss hsr (slot buf (py c) b) (slot buf (py c) b) hN TB fd TB' hTB' hp₁ hp₂)
  isplitr; · iexact Hc
  isplitl [HbR]; · iexact HbR
  isplitl [Hd]; · iexact Hd
  isplitl [HO]; · iexact HO
  isplitl [Ht₁]; · iexact Ht₁
  isplitl [Ht₂]; · iexact Ht₂
  iintro ⟨Hcr, HO⟩
  iapply Hk
  isplitl [HD]; · iexact HD
  isplitl [Hs]; · iexact Hs
  isplitl [Hv]; · iexact Hv
  isplitl [HbL]; · iexact HbL
  isplitl [Hcr]; · iexact Hcr
  iexact HO

end Cert.KernelIdeal.Att

end
-- ==== Proof.Rows2.lean ====
/- The rows of results: the heads of a row, its sending, its merging, and the closing waits. -/
module

public import proofs.«01_k».proof.Proof.Rows

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

/-! ## The numbers of the semaphores -/

theorem in_lt (r : Fin 3) (b : Fin 4) : (inS r b).val < 16 := by revert r b; decide
theorem out_lt (b : Fin 4) : (outS b).val < 16 := by revert b; decide
theorem kvS_ge (r : Fin 2) (b : Fin 4) : 16 ≤ (kvS r b).val := by revert r b; decide
theorem kvR_ge (r : Fin 2) (b : Fin 4) : 16 ≤ (kvR r b).val := by revert r b; decide
theorem obS_ge (b : Fin 4) : 16 ≤ (obS b).val := by revert b; decide
theorem obR_ge (b : Fin 4) : 16 ≤ (obR b).val := by revert b; decide
theorem kvS_lv (r : Fin 2) (b : Fin 4) : lvS (.dma (kvS r b)) ≤ 0 := by revert r b; decide
theorem kvR_lv (r : Fin 2) (b : Fin 4) : lvS (.dma (kvR r b)) ≤ 2 := by revert r b; decide
theorem obS_lv (b : Fin 4) : lvS (.dma (obS b)) ≤ 0 := by revert b; decide
theorem obR_lv (b : Fin 4) : lvS (.dma (obR b)) ≤ 3 := by revert b; decide
theorem obR_eq (b : Fin 4) : obR b = rsem ⟨8 + b.val, by omega⟩ := by revert b; decide
theorem tgt_eq (c : Dev nD) (b : Fin 4) : xn c = tgt c ⟨8 + b.val, by omega⟩ := by revert c b; decide

/-! ## Queries -/

abbrev ptQ (c : Dev nD) (b : Fin 4) (f : Vec F S4x256x512 .bf16) : sProp 𝕄 :=
  (rowB qB b).view.loc (c : Thread nD τ) ↦[(rowB qB b).view.set]{fullShare} f

/-- The row of results under way. -/
abbrev upO (c : Dev nD) (b : Fin 4) (A : Finset (Idx (oF.view.loc (c : Thread nD τ)))) : sProp 𝕄 :=
  upto c oF (rowA oF b).view.set A (tO m c)
/-- The row to be sent under way. -/
abbrev upS (c : Dev nD) (b : Fin 4) (A : Finset (Idx (sB.view.loc (c : Thread nD τ)))) : sProp 𝕄 :=
  upto c sB (rowB sB b).view.set A (tS m c)

theorem q_wp (c : Dev nD) (b : Fin 4)
    (o' : Fin 4 → Nat) (ho' : ∀ a, o' a + S1x1x256x512.size a ≤ S2x4x256x512.size a)
    (hw : (Rect.unit (s := S2x4x256x512) o' S1x1x256x512.size ho').WholeWords (EltTy.packing .bf16))
    (k : Pg F) (Q : PUnit → sProp 𝕄) :
    iprop(ctx m ∗ flight qA qF c (inS 0 b) b (aQ m c) (aQ m c) ∗ (∃ f, ptQ c b f) ∗ ow c (owe c (8 + b.val))
        ∗ cred (tallyAt (dmaCell c (kvR 0 b)) () N) ∗ atPos ER (dmaCell c (kvR 0 b)) 0 ∅ 0
        ∗ cred (tallyAt (dmaCell c (kvR 1 b)) () N) ∗ atPos ER (dmaCell c (kvR 1 b)) 0 ∅ 0
        ∗ ((ptA qF c b (aQ m c) ∗ ptA qA c b (aQ m c) ∗ semVal (dmaCell c (inS 0 b)) 0 ∗ ptQ c b (tQ m c)
              ∗ ptK c (oth (py c)) b fullShare (tK m c) ∗ ptV c (oth (py c)) b fullShare (tV m c)
              ∗ atPos ER (dmaCell c (kvR 0 b)) 1 ∅ 0 ∗ atPos ER (dmaCell c (kvR 1 b)) 1 ∅ 0 ∗ ow c (owe c (8 + b.val))) -∗ WP c k Q))
      ⊢ WP c (qBlk b (px c) o' ho' hw k) Q := by
  unfold qBlk
  iintro ⟨#Hc, HF, ⟨%f, Hq⟩, HO, Hc0, Ha0, Hc1, Ha1, Hk⟩
  iapply (wait_wp m qA qF c (inS 0 b) b (8 + b.val) (in_lt 0 b) (rowA qA b) (rowA qF b) rfl (aQ m c) (aQ m c))
  isplitr; · iexact Hc
  isplitl [HF]; · iexact HF
  isplitl [HO]; · iexact HO
  iintro ⟨HD, Hs, Hv, HO⟩
  iapply (load_wp c qF (rH b (px c)).toLoadRect (rowA qF b).view.set
    (by rw [rowA_set]; exact setOn_sub qF (rH b (px c)) (rA b) (rH_sub b (px c))) (aQ m c))
  isplitl [HD]; · iexact HD
  iintro HD
  iapply (load_wp c qB (rB' b).toLoadRect (rowB qB b).view.set
    (by rw [rowB_set]; exact setOn_sub qB (rB' b) (rB' b) (Finset.Subset.refl _)) f)
  isplitl [Hq]; · iexact Hq
  iintro Hq
  iapply (upto_store c qB (rB' b) _ (rowB qB b).view.set ∅ (tQ m c) (by rw [rowB_set]) (tQ_read m c b))
  isplitl [Hq]
  · iapply (upto_start c qB _ (tQ m c)); iexists f; iexact Hq
  iintro Hq
  ihave Hq := (upto_done c qB (rowB qB b).view.set _ (tQ m c) (by rw [rowB_set]; exact Finset.subset_union_right)) $$ Hq
  iapply (recv_wp m c (kvR 0 b) (kvR_ge 0 b) (8 + b.val) 2 (kvR_lv 0 b)
    (fun j hj => by rw [lv_rsem, if_neg (by omega)]; decide) (rowK kB o' ho') (rowK kB o' ho') rfl)
  isplitr; · iexact Hc
  isplitl [Hc0]; · iexact Hc0
  isplitl [Ha0]; · iexact Ha0
  isplitl [HO]; · iexact HO
  iintro ⟨HK, Ha0, HO⟩
  iapply (recv_wp m c (kvR 1 b) (kvR_ge 1 b) (8 + b.val) 2 (kvR_lv 1 b)
    (fun j hj => by rw [lv_rsem, if_neg (by omega)]; decide) (rowK vB o' ho') (rowK vB o' ho') rfl)
  isplitr; · iexact Hc
  isplitl [Hc1]; · iexact Hc1
  isplitl [Ha1]; · iexact Ha1
  isplitl [HO]; · iexact HO
  iintro ⟨HV, Ha1, HO⟩
  ihave HK := (Entails.of_eq (pay_kR m c b)) $$ HK
  ihave HV := (Entails.of_eq (pay_vR m c b)) $$ HV
  iapply Hk
  isplitl [HD]; · iexact HD
  isplitl [Hs]; · iexact Hs
  isplitl [Hv]; · iexact Hv
  isplitl [Hq]; · iexact Hq
  isplitl [HK]; · iexact HK
  isplitl [HV]; · iexact HV
  isplitl [Ha0]; · iexact Ha0
  isplitl [Ha1]; · iexact Ha1
  iexact HO

/-! ## A head -/

/-- What a head reads. -/
def rdH (c : Dev nD) (b : Fin 4) (q0 q1 : PosShare TreeShare) : sProp 𝕄 :=
  iprop(ptQ c b (tQ m c) ∗ ptK c 0 b q0 (tK m c) ∗ ptK c 1 b q1 (tK m c) ∗ ptV c 0 b q0 (tV m c) ∗ ptV c 1 b q1 (tV m c))

theorem head_wp (c : Dev nD) (b : Fin 4) (j : Fin 8) (q0 q1 : PosShare TreeShare)
    (A : Finset (Idx (oF.view.loc (c : Thread nD τ)))) (B : Finset (Idx (sB.view.loc (c : Thread nD τ))))
    (k : Pg F) (Q : PUnit → sProp 𝕄) :
    iprop(rdH m c b q0 q1 ∗ upO m c b A ∗ upS m c b B
        ∗ ((rdH m c b q0 q1 ∗ upO m c b (A ∪ (oF.view.slice (rC b (px c) j)).set) ∗ upS m c b (B ∪ (sB.view.slice (rJ b j)).set)) -∗ WP c k Q))
      ⊢ WP c (headBlk b (px c) j k) Q := by
  unfold headBlk rdH
  iintro ⟨⟨HQ, HK0, HK1, HV0, HV1⟩, HO, HS, Hk⟩
  iapply (load_wp c qB (rJ b j).toLoadRect (rowB qB b).view.set
    (by rw [rowB_set]; exact setOn_sub qB (rJ b j) (rB' b) (rJ_sub b j)) (tQ m c))
  isplitl [HQ]; · iexact HQ
  iintro HQ
  iapply (load_wp c kB (rK 0 b j).toLoadRect (slot kB 0 b).view.set
    (by rw [slot_set]; exact setOn_sub kB (rK 0 b j) (rS 0 b) (rK_sub 0 b j)) (tK m c))
  isplitl [HK0]; · iexact HK0
  iintro HK0
  iapply (load_wp c kB (rK 1 b j).toLoadRect (slot kB 1 b).view.set
    (by rw [slot_set]; exact setOn_sub kB (rK 1 b j) (rS 1 b) (rK_sub 1 b j)) (tK m c))
  isplitl [HK1]; · iexact HK1
  iintro HK1
  iapply (load_wp c vB (rK 0 b j).toLoadRect (slot vB 0 b).view.set
    (by rw [slot_set]; exact setOn_sub vB (rK 0 b j) (rS 0 b) (rK_sub 0 b j)) (tV m c))
  isplitl [HV0]; · iexact HV0
  iintro HV0
  iapply (load_wp c vB (rK 1 b j).toLoadRect (slot vB 1 b).view.set
    (by rw [slot_set]; exact setOn_sub vB (rK 1 b j) (rS 1 b) (rK_sub 1 b j)) (tV m c))
  isplitl [HV1]; · iexact HV1
  iintro HV1
  iapply (upto_load c oF (rC b (px c) j).toLoadRect (rowA oF b).view.set A (tO m c)
    (by rw [rowA_set]; exact setOn_sub oF (rC b (px c) j) (rA b) (rC_sub b (px c) j)))
  isplitl [HO]; · iexact HO
  iintro HO
  iapply (upto_store c oF (rC b (px c) j) _ (rowA oF b).view.set A (tO m c)
    (by rw [rowA_set]; exact set_slice_sub oF _ _ (rC_sub b (px c) j)) (tO_read_head m c b j))
  isplitl [HO]; · iexact HO
  iintro HO
  iapply (upto_load c sB (rJ b j).toLoadRect (rowB sB b).view.set B (tS m c)
    (by rw [rowB_set]; exact setOn_sub sB (rJ b j) (rB' b) (rJ_sub b j)))
  isplitl [HS]; · iexact HS
  iintro HS
  iapply (upto_store c sB (rJ b j) _ (rowB sB b).view.set B (tS m c)
    (by rw [rowB_set]; exact set_slice_sub sB _ _ (rJ_sub b j)) (tS_read m c b j))
  isplitl [HS]; · iexact HS
  iintro HS
  iapply Hk
  isplitl [HQ HK0 HK1 HV0 HV1]
  · isplitl [HQ]; · iexact HQ
    isplitl [HK0]; · iexact HK0
    isplitl [HK1]; · iexact HK1
    isplitl [HV0]; · iexact HV0
    iexact HV1
  isplitl [HO]; · iexact HO
  iexact HS

/-! ## The heads of a row together -/

abbrev oJ (b : Fin 4) (x : Fin 2) (j : Fin 8) : Finset S4x256x1024.Idx := (oF.view.slice (rC b x j)).set
abbrev sJ (b : Fin 4) (j : Fin 8) : Finset S4x256x512.Idx := (sB.view.slice (rJ b j)).set
/-- The lanes of all heads. -/
def oAll (b : Fin 4) (x : Fin 2) : Finset S4x256x1024.Idx :=
  ∅ ∪ oJ b x 0 ∪ oJ b x 1 ∪ oJ b x 2 ∪ oJ b x 3 ∪ oJ b x 4 ∪ oJ b x 5 ∪ oJ b x 6 ∪ oJ b x 7
def sAll (b : Fin 4) : Finset S4x256x512.Idx :=
  ∅ ∪ sJ b 0 ∪ sJ b 1 ∪ sJ b 2 ∪ sJ b 3 ∪ sJ b 4 ∪ sJ b 5 ∪ sJ b 6 ∪ sJ b 7

theorem mem_chain {α : Type} [DecidableEq α] (f : Fin 8 → Finset α) (j : Fin 8) :
    f j ⊆ ∅ ∪ f 0 ∪ f 1 ∪ f 2 ∪ f 3 ∪ f 4 ∪ f 5 ∪ f 6 ∪ f 7 := by
  intro i hi
  simp only [Finset.mem_union]
  fin_cases j <;> tauto
theorem oJ_mem (b : Fin 4) (x : Fin 2) (j : Fin 8) (i : S4x256x1024.Idx) (h0 : (i 0).val = b.val)
    (h2 : 512 * x.val + 64 * j.val ≤ (i 2).val) (h2' : (i 2).val < 512 * x.val + 64 * j.val + 64) : i ∈ oJ b x j := by
  show i ∈ ((Memref.whole cc0_scratch3).view.slice (rC b x j)).set
  rw [View.set_slice_whole, Rect.mem_set_unit]
  intro a
  fin_cases a
  · exact ⟨le_of_eq h0.symm, by show (i 0).val < b.val + 1; omega⟩
  · exact ⟨Nat.zero_le _, by show (i 1).val < 0 + 256; have : (i 1).val < 256 := (i 1).isLt; omega⟩
  · exact ⟨h2, h2'⟩
theorem sJ_mem (b : Fin 4) (j : Fin 8) (i : S4x256x512.Idx) (h0 : (i 0).val = b.val)
    (h2 : 64 * j.val ≤ (i 2).val) (h2' : (i 2).val < 64 * j.val + 64) : i ∈ sJ b j := by
  show i ∈ ((Memref.whole cc0_scratch7).view.slice (rJ b j)).set
  rw [View.set_slice_whole, Rect.mem_set_unit]
  intro a
  fin_cases a
  · exact ⟨le_of_eq h0.symm, by show (i 0).val < b.val + 1; omega⟩
  · exact ⟨Nat.zero_le _, by show (i 1).val < 0 + 256; have : (i 1).val < 256 := (i 1).isLt; omega⟩
  · exact ⟨h2, h2'⟩

theorem sAll_all (b : Fin 4) : (rowB sB b).view.set ⊆ sAll b := by
  rw [rowB_set]
  intro i hi
  change i ∈ ((Memref.whole cc0_scratch7).view.slice (rB' b)).set at hi
  rw [View.set_slice_whole, Rect.mem_set_unit] at hi
  have h0 : b.val ≤ (i 0).val ∧ (i 0).val < b.val + 1 := hi 0
  have hj : (i 2).val < 512 := (i 2).isLt
  obtain ⟨j, hj1, hj2⟩ : ∃ j : Fin 8, 64 * j.val ≤ (i 2).val ∧ (i 2).val < 64 * j.val + 64 :=
    ⟨⟨(i 2).val / 64, by omega⟩, by show 64 * ((i 2).val / 64) ≤ _; omega, by show _ < 64 * ((i 2).val / 64) + 64; omega⟩
  have h := sJ_mem b j i (by omega) hj1 hj2
  exact mem_chain (sJ b) j h

theorem oAll_all (b : Fin 4) (x : Fin 2) : (rowA oF b).view.set ⊆ oAll b x ∪ (oF.view.slice (rO b x)).set := by
  rw [rowA_set]
  intro i hi
  change i ∈ ((Memref.whole cc0_scratch3).view.slice (rA b)).set at hi
  rw [View.set_slice_whole, Rect.mem_set_unit] at hi
  have h0 : b.val ≤ (i 0).val ∧ (i 0).val < b.val + 1 := hi 0
  have hj : (i 2).val < 1024 := (i 2).isLt
  have hx : x.val < 2 := x.isLt
  by_cases hh : 512 * x.val ≤ (i 2).val ∧ (i 2).val < 512 * x.val + 512
  · obtain ⟨j, hj1, hj2⟩ : ∃ j : Fin 8, 512 * x.val + 64 * j.val ≤ (i 2).val ∧ (i 2).val < 512 * x.val + 64 * j.val + 64 :=
      ⟨⟨((i 2).val - 512 * x.val) / 64, by omega⟩, by show 512 * x.val + 64 * (((i 2).val - 512 * x.val) / 64) ≤ _; omega,
        by show _ < 512 * x.val + 64 * (((i 2).val - 512 * x.val) / 64) + 64; omega⟩
    have h := oJ_mem b x j i (by omega) hj1 hj2
    apply Finset.mem_union_left
    exact mem_chain (oJ b x) j h
  · apply Finset.mem_union_right
    show i ∈ ((Memref.whole cc0_scratch3).view.slice (rO b x)).set
    rw [View.set_slice_whole, Rect.mem_set_unit]
    intro a
    fin_cases a
    · exact h0
    · exact ⟨Nat.zero_le _, by show (i 1).val < 0 + 256; have : (i 1).val < 256 := (i 1).isLt; omega⟩
    · exact ⟨by show 512 * (1 - x.val) ≤ (i 2).val; omega, by show (i 2).val < 512 * (1 - x.val) + 512; omega⟩

theorem heads_wp (c : Dev nD) (b : Fin 4) (q0 q1 : PosShare TreeShare) (k : Pg F) (Q : PUnit → sProp 𝕄) :
    iprop(rdH m c b q0 q1 ∗ upO m c b ∅ ∗ upS m c b ∅
        ∗ ((rdH m c b q0 q1 ∗ upO m c b (oAll b (px c)) ∗ ptS c b fullShare (tS m c)) -∗ WP c k Q))
      ⊢ WP c (headBlk b (px c) 0 <| headBlk b (px c) 1 <| headBlk b (px c) 2 <| headBlk b (px c) 3 <|
          headBlk b (px c) 4 <| headBlk b (px c) 5 <| headBlk b (px c) 6 <| headBlk b (px c) 7 k) Q := by
  iintro ⟨HR, HO, HS, Hk⟩
  iapply (head_wp m c b 0 q0 q1); isplitl [HR]; · iexact HR
  isplitl [HO]; · iexact HO
  isplitl [HS]; · iexact HS
  iintro ⟨HR, HO, HS⟩
  iapply (head_wp m c b 1 q0 q1); isplitl [HR]; · iexact HR
  isplitl [HO]; · iexact HO
  isplitl [HS]; · iexact HS
  iintro ⟨HR, HO, HS⟩
  iapply (head_wp m c b 2 q0 q1); isplitl [HR]; · iexact HR
  isplitl [HO]; · iexact HO
  isplitl [HS]; · iexact HS
  iintro ⟨HR, HO, HS⟩
  iapply (head_wp m c b 3 q0 q1); isplitl [HR]; · iexact HR
  isplitl [HO]; · iexact HO
  isplitl [HS]; · iexact HS
  iintro ⟨HR, HO, HS⟩
  iapply (head_wp m c b 4 q0 q1); isplitl [HR]; · iexact HR
  isplitl [HO]; · iexact HO
  isplitl [HS]; · iexact HS
  iintro ⟨HR, HO, HS⟩
  iapply (head_wp m c b 5 q0 q1); isplitl [HR]; · iexact HR
  isplitl [HO]; · iexact HO
  isplitl [HS]; · iexact HS
  iintro ⟨HR, HO, HS⟩
  iapply (head_wp m c b 6 q0 q1); isplitl [HR]; · iexact HR
  isplitl [HO]; · iexact HO
  isplitl [HS]; · iexact HS
  iintro ⟨HR, HO, HS⟩
  iapply (head_wp m c b 7 q0 q1); isplitl [HR]; · iexact HR
  isplitl [HO]; · iexact HO
  isplitl [HS]; · iexact HS
  iintro ⟨HR, HO, HS⟩
  iapply Hk
  isplitl [HR]; · iexact HR
  isplitl [HO]; · iexact HO
  iapply (upto_done c sB (rowB sB b).view.set _ (tS m c) (sAll_all b)); iexact HS

/-- The two slots by their number, from the own and the arrived. -/
theorem slots (c : Dev nD) (Φ : Fin 2 → PosShare TreeShare → sProp 𝕄) (qa qb : PosShare TreeShare) :
    iprop(Φ (py c) qa ∗ Φ (oth (py c)) qb) = iprop(Φ 0 (if py c = 0 then qa else qb) ∗ Φ 1 (if py c = 0 then qb else qa)) := by
  generalize py c = y
  fin_cases y
  · rfl
  · exact Entails.antisymm Idealize.SL.BI.sep_comm Idealize.SL.BI.sep_comm

/-- Row `b` of queries with its eight heads, sent. -/
theorem att_wp (c : Dev nD) (T : Tabs) (b : Fin 4) (hd : T.dd b = xn c) (k : Pg F) (Q : PUnit → sProp 𝕄) :
    iprop(ctx m ∗ flight qA qF c (inS 0 b) b (aQ m c) (aQ m c) ∗ (∃ f, ptQ c b f) ∗ ow c (owe c (8 + b.val))
        ∗ cred (tallyAt (dmaCell c (kvR 0 b)) () N) ∗ atPos ER (dmaCell c (kvR 0 b)) 0 ∅ 0
        ∗ cred (tallyAt (dmaCell c (kvR 1 b)) () N) ∗ atPos ER (dmaCell c (kvR 1 b)) 0 ∅ 0
        ∗ ptK c (py c) b fullShare.left (tK m c) ∗ ptV c (py c) b fullShare.left (tV m c)
        ∗ (∃ f, (rowA oF b).view.loc (c : Thread nD τ) ↦[(rowA oF b).view.set]{fullShare} f) ∗ (∃ f, ptS c b fullShare f) ∗ barX c b
        ∗ dutyTok ER (dmaCell c (obS b)) 0 false ∗ dutyTok ER (dmaCell (xn c) (obR b)) 0 false
        ∗ ((ptA qF c b (aQ m c) ∗ ptA qA c b (aQ m c) ∗ semVal (dmaCell c (inS 0 b)) 0 ∗ ptQ c b (tQ m c)
              ∗ atPos ER (dmaCell c (kvR 0 b)) 1 ∅ 0 ∗ atPos ER (dmaCell c (kvR 1 b)) 1 ∅ 0
              ∗ ptK c (py c) b fullShare.left (tK m c) ∗ ptV c (py c) b fullShare.left (tV m c)
              ∗ ptK c (oth (py c)) b fullShare (tK m c) ∗ ptV c (oth (py c)) b fullShare (tV m c)
              ∗ upO m c b (oAll b (px c)) ∗ cred (tallyAt (dmaCell c (obS b)) () N) ∗ ow c (owe c (9 + b.val))) -∗ WP c k Q))
      ⊢ WP c (attRow T (px c) b k) Q := by
  unfold attRow barX
  rw [hd]
  iintro ⟨#Hc, HF, Hq, HO, Hc0, Ha0, Hc1, Ha1, HKl, HVl, Ho, Hs, ⟨%fr, Hr⟩, Ht₁, Ht₂, Hk⟩
  iapply (q_wp m c b (T.o' b) (T.ho' b) (T.hw b))
  isplitr; · iexact Hc
  isplitl [HF]; · iexact HF
  isplitl [Hq]; · iexact Hq
  isplitl [HO]; · iexact HO
  isplitl [Hc0]; · iexact Hc0
  isplitl [Ha0]; · iexact Ha0
  isplitl [Hc1]; · iexact Hc1
  isplitl [Ha1]; · iexact Ha1
  iintro ⟨HD, HA, Hv, HQ, HKr, HVr, Ha0, Ha1, HO⟩
  ihave HK := (Entails.of_eq (slots c (fun s q => ptK c s b q (tK m c)) fullShare.left fullShare)) $$ [HKl HKr]
  · isplitl [HKl]; · iexact HKl
    iexact HKr
  ihave HV := (Entails.of_eq (slots c (fun s q => ptV c s b q (tV m c)) fullShare.left fullShare)) $$ [HVl HVr]
  · isplitl [HVl]; · iexact HVl
    iexact HVr
  icases HK with ⟨HK0, HK1⟩
  icases HV with ⟨HV0, HV1⟩
  iapply (heads_wp m c b (if py c = 0 then fullShare.left else fullShare) (if py c = 0 then fullShare else fullShare.left))
  isplitl [HQ HK0 HK1 HV0 HV1]
  · unfold rdH
    isplitl [HQ]; · iexact HQ
    isplitl [HK0]; · iexact HK0
    isplitl [HK1]; · iexact HK1
    isplitl [HV0]; · iexact HV0
    iexact HV1
  isplitl [Ho]
  · iapply (upto_start c oF (rowA oF b).view.set (tO m c)); iexact Ho
  isplitl [Hs]
  · iapply (upto_start c sB (rowB sB b).view.set (tS m c)); iexact Hs
  unfold rdH
  iintro ⟨⟨HQ, HK0, HK1, HV0, HV1⟩, Ho, Hs⟩
  ihave HK := (Entails.of_eq (slots c (fun s q => ptK c s b q (tK m c)) fullShare.left fullShare).symm) $$ [HK0 HK1]
  · isplitl [HK0]; · iexact HK0
    iexact HK1
  ihave HV := (Entails.of_eq (slots c (fun s q => ptV c s b q (tV m c)) fullShare.left fullShare).symm) $$ [HV0 HV1]
  · isplitl [HV0]; · iexact HV0
    iexact HV1
  icases HK with ⟨HKl, HKr⟩
  icases HV with ⟨HVl, HVr⟩
  unfold sendBlk
  iapply (send_wp m c (xn c) ⟨8 + b.val, by omega⟩ (obS b) (obR b) (tgt_eq c b) (obR_eq b) (obS_ge b) (obR_ge b)
    (rowB sB b) (rowB rB b) (by rfl) (tS m c) fr (tR m (xn c)) (by
      show (rowB rB b).view.read (Elt F) (tS m (xn (xn c))) = (rowB sB b).view.read (Elt F) (tS m c)
      rw [xn_xn]; rfl) (pay_oS m c b) (pay_oR m (xn c) b))
  isplitr; · iexact Hc
  isplitl [Hs]; · iexact Hs
  isplitl [Hr]; · iexact Hr
  isplitl [HO]; · iexact HO
  isplitl [Ht₁]; · iexact Ht₁
  isplitl [Ht₂]; · iexact Ht₂
  iintro ⟨Hcr, HO⟩
  iapply Hk
  isplitl [HD]; · iexact HD
  isplitl [HA]; · iexact HA
  isplitl [Hv]; · iexact Hv
  isplitl [HQ]; · iexact HQ
  isplitl [Ha0]; · iexact Ha0
  isplitl [Ha1]; · iexact Ha1
  isplitl [HKl]; · iexact HKl
  isplitl [HVl]; · iexact HVl
  isplitl [HKr]; · iexact HKr
  isplitl [HVr]; · iexact HVr
  isplitl [Ho]; · iexact Ho
  isplitl [Hcr]; · iexact Hcr
  rw [show 9 + b.val = 8 + b.val + 1 by omega]
  iexact HO

/-! ## Merging and the closing waits -/

theorem fin_wp (c : Dev nD) (b : Fin 4) (k : Pg F) (Q : PUnit → sProp 𝕄) :
    iprop(ctx m ∗ cred (tallyAt (dmaCell c (obR b)) () N) ∗ atPos ER (dmaCell c (obR b)) 0 ∅ 0 ∗ ow c (owe c 12)
        ∗ upO m c b (oAll b (px c)) ∗ (∃ f, ptA oA c b f) ∗ semVal (dmaCell c (outS b)) 0
        ∗ ((ptR c b fullShare (tR m c) ∗ atPos ER (dmaCell c (obR b)) 1 ∅ 0 ∗ flight oF oA c (outS b) b (tO m c) (tO m c) ∗ ow c (owe c 12)) -∗ WP c k Q))
      ⊢ WP c (finBlk b (px c) k) Q := by
  unfold finBlk
  iintro ⟨#Hc, Hcr, Ha, HO, Hu, ⟨%f, HA⟩, Hv, Hk⟩
  iapply (recv_wp m c (obR b) (obR_ge b) 12 3 (obR_lv b) (fun j hj => by omega) (rowB sB b) (rowB rB b) (by rfl))
  isplitr; · iexact Hc
  isplitl [Hcr]; · iexact Hcr
  isplitl [Ha]; · iexact Ha
  isplitl [HO]; · iexact HO
  iintro ⟨HR, Ha, HO⟩
  ihave HR := (Entails.of_eq (pay_oR m c b)) $$ HR
  iapply (load_wp c rB (rB' b).toLoadRect (rowB rB b).view.set
    (by rw [rowB_set]; exact setOn_sub rB (rB' b) (rB' b) (Finset.Subset.refl _)) (tR m c))
  isplitl [HR]; · iexact HR
  iintro HR
  iapply (upto_load c oF (rO b (px c)).toLoadRect (rowA oF b).view.set _ (tO m c)
    (by rw [rowA_set]; exact setOn_sub oF (rO b (px c)) (rA b) (rO_sub b (px c))))
  isplitl [Hu]; · iexact Hu
  iintro Hu
  iapply (upto_store c oF (rO b (px c)) _ (rowA oF b).view.set _ (tO m c)
    (by rw [rowA_set]; exact set_slice_sub oF _ _ (rO_sub b (px c))) (tO_read_fin m c b))
  isplitl [Hu]; · iexact Hu
  iintro Hu
  ihave Ho := (upto_done c oF (rowA oF b).view.set _ (tO m c) (oAll_all b (px c))) $$ Hu
  iapply (dma_wp oF oA c (outS b) b (tO m c) f (tO m c) rfl)
  isplitl [Ho]; · iexact Ho
  isplitl [HA]; · iexact HA
  isplitl [Hv]; · iexact Hv
  iintro HF
  iapply Hk
  isplitl [HR]; · iexact HR
  isplitl [Ha]; · iexact Ha
  isplitl [HF]; · iexact HF
  iexact HO

theorem end_wp (c : Dev nD) (b : Fin 4)
    (o' : Fin 4 → Nat) (ho' : ∀ a, o' a + S1x1x256x512.size a ≤ S2x4x256x512.size a)
    (hw : (Rect.unit (s := S2x4x256x512) o' S1x1x256x512.size ho').WholeWords (EltTy.packing .bf16))
    (k : Pg F) (Q : PUnit → sProp 𝕄) :
    iprop(ctx m ∗ flight oF oA c (outS b) b (tO m c) (tO m c) ∗ ow c (owe c 12)
        ∗ cred (tallyAt (dmaCell c (kvS 0 b)) () N) ∗ atPos ER (dmaCell c (kvS 0 b)) 0 ∅ 0
        ∗ cred (tallyAt (dmaCell c (kvS 1 b)) () N) ∗ atPos ER (dmaCell c (kvS 1 b)) 0 ∅ 0
        ∗ cred (tallyAt (dmaCell c (obS b)) () N) ∗ atPos ER (dmaCell c (obS b)) 0 ∅ 0
        ∗ ((ptA oA c b (tO m c) ∗ ptA oF c b (tO m c) ∗ semVal (dmaCell c (outS b)) 0
              ∗ ptK c (py c) b fullShare.right (tK m c) ∗ ptV c (py c) b fullShare.right (tV m c) ∗ ptS c b fullShare (tS m c)
              ∗ atPos ER (dmaCell c (kvS 0 b)) 1 ∅ 0 ∗ atPos ER (dmaCell c (kvS 1 b)) 1 ∅ 0 ∗ atPos ER (dmaCell c (obS b)) 1 ∅ 0
              ∗ ow c (owe c 12)) -∗ WP c k Q))
      ⊢ WP c (endBlk b o' ho' hw k) Q := by
  unfold endBlk
  iintro ⟨#Hc, HF, HO, Hc0, Ha0, Hc1, Ha1, Hc2, Ha2, Hk⟩
  iapply (wait_wp m oF oA c (outS b) b 12 (out_lt b) (rowA oF b) (rowA oA b) rfl (tO m c) (tO m c))
  isplitr; · iexact Hc
  isplitl [HF]; · iexact HF
  isplitl [HO]; · iexact HO
  iintro ⟨HA, Ho, Hv, HO⟩
  iapply (recv_wp m c (kvS 0 b) (kvS_ge 0 b) 12 0 (kvS_lv 0 b) (fun j hj => by omega) (rowK kB o' ho') (rowK kB o' ho') rfl)
  isplitr; · iexact Hc
  isplitl [Hc0]; · iexact Hc0
  isplitl [Ha0]; · iexact Ha0
  isplitl [HO]; · iexact HO
  iintro ⟨HK, Ha0, HO⟩
  iapply (recv_wp m c (kvS 1 b) (kvS_ge 1 b) 12 0 (kvS_lv 1 b) (fun j hj => by omega) (rowK vB o' ho') (rowK vB o' ho') rfl)
  isplitr; · iexact Hc
  isplitl [Hc1]; · iexact Hc1
  isplitl [Ha1]; · iexact Ha1
  isplitl [HO]; · iexact HO
  iintro ⟨HV, Ha1, HO⟩
  iapply (recv_wp m c (obS b) (obS_ge b) 12 0 (obS_lv b) (fun j hj => by omega) (rowB rB b) (rowB sB b) (by rfl))
  isplitr; · iexact Hc
  isplitl [Hc2]; · iexact Hc2
  isplitl [Ha2]; · iexact Ha2
  isplitl [HO]; · iexact HO
  iintro ⟨HS, Ha2, HO⟩
  ihave HK := (Entails.of_eq (pay_kS m c b)) $$ HK
  ihave HV := (Entails.of_eq (pay_vS m c b)) $$ HV
  ihave HS := (Entails.of_eq (pay_oS m c b)) $$ HS
  iapply Hk
  isplitl [HA]; · iexact HA
  isplitl [Ho]; · iexact Ho
  isplitl [Hv]; · iexact Hv
  isplitl [HK]; · iexact HK
  isplitl [HV]; · iexact HV
  isplitl [HS]; · iexact HS
  isplitl [Ha0]; · iexact Ha0
  isplitl [Ha1]; · iexact Ha1
  isplitl [Ha2]; · iexact Ha2
  iexact HO

end Cert.KernelIdeal.Att

end
-- ==== Proof.Half.lean ====
/- A row's resources from phase to phase, and the run of one half of the heads. -/
module

public import proofs.«01_k».proof.Proof.Rows2

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

/-! ## What a row of a device holds, piece by piece -/

section Pieces
variable (c : Dev nD) (b : Fin 4)

/-- The arguments' rows and their landing rows, before the copies in, -/
def pIn : sProp 𝕄 :=
  iprop((ptA kA c b (aK m c) ∗ (∃ f, ptA kF c b f) ∗ semVal (dmaCell c (inS 1 b)) 0)
    ∗ (ptA vA c b (aV m c) ∗ (∃ f, ptA vF c b f) ∗ semVal (dmaCell c (inS 2 b)) 0)
    ∗ (ptA qA c b (aQ m c) ∗ (∃ f, ptA qF c b f) ∗ semVal (dmaCell c (inS 0 b)) 0))
/-- and in flight. -/
def pFl : sProp 𝕄 :=
  iprop(flight kA kF c (inS 1 b) b (aK m c) (aK m c) ∗ flight vA vF c (inS 2 b) b (aV m c) (aV m c)
    ∗ flight qA qF c (inS 0 b) b (aQ m c) (aQ m c))
/-- What the gathering of a row takes, -/
def p1 : sProp 𝕄 :=
  iprop((∃ f, ptK c (py c) b fullShare f) ∗ (∃ f, ptV c (py c) b fullShare f)
    ∗ dutyTok ER (dmaCell c (kvS 0 b)) 0 false ∗ dutyTok ER (dmaCell (yn c) (kvR 0 b)) 0 false
    ∗ dutyTok ER (dmaCell c (kvS 1 b)) 0 false ∗ dutyTok ER (dmaCell (yn c) (kvR 1 b)) 0 false)
/-- what the heads take, -/
def p2 : sProp 𝕄 :=
  iprop((∃ f, ptQ c b f) ∗ cred (tallyAt (dmaCell c (kvR 0 b)) () N) ∗ atPos ER (dmaCell c (kvR 0 b)) 0 ∅ 0
    ∗ cred (tallyAt (dmaCell c (kvR 1 b)) () N) ∗ atPos ER (dmaCell c (kvR 1 b)) 0 ∅ 0
    ∗ (∃ f, (rowA oF b).view.loc (c : Thread nD τ) ↦[(rowA oF b).view.set]{fullShare} f) ∗ (∃ f, ptS c b fullShare f)
    ∗ dutyTok ER (dmaCell c (obS b)) 0 false ∗ dutyTok ER (dmaCell (xn c) (obR b)) 0 false)
/-- what the merging takes, -/
def p3 : sProp 𝕄 :=
  iprop(cred (tallyAt (dmaCell c (obR b)) () N) ∗ atPos ER (dmaCell c (obR b)) 0 ∅ 0
    ∗ (∃ f, ptA oA c b f) ∗ semVal (dmaCell c (outS b)) 0)
/-- and what the closing waits take. -/
def p4 : sProp 𝕄 :=
  iprop(atPos ER (dmaCell c (kvS 0 b)) 0 ∅ 0 ∗ atPos ER (dmaCell c (kvS 1 b)) 0 ∅ 0 ∗ atPos ER (dmaCell c (obS b)) 0 ∅ 0)

/-- What is left of the keys' and values' copies in, -/
def m1 : sProp 𝕄 :=
  iprop((ptA kF c b (aK m c) ∗ ptA kA c b (aK m c) ∗ semVal (dmaCell c (inS 1 b)) 0)
    ∗ (ptA vF c b (aV m c) ∗ ptA vA c b (aV m c) ∗ semVal (dmaCell c (inS 2 b)) 0))
/-- of the slots' own half share, -/
def l1 : sProp 𝕄 := iprop(ptK c (py c) b fullShare.left (tK m c) ∗ ptV c (py c) b fullShare.left (tV m c))
def cr1 : sProp 𝕄 := iprop(cred (tallyAt (dmaCell c (kvS 0 b)) () N) ∗ cred (tallyAt (dmaCell c (kvS 1 b)) () N))
/-- of the heads, -/
def m2 : sProp 𝕄 :=
  iprop((ptA qF c b (aQ m c) ∗ ptA qA c b (aQ m c) ∗ semVal (dmaCell c (inS 0 b)) 0) ∗ ptQ c b (tQ m c)
    ∗ atPos ER (dmaCell c (kvR 0 b)) 1 ∅ 0 ∗ atPos ER (dmaCell c (kvR 1 b)) 1 ∅ 0 ∗ l1 m c b
    ∗ ptK c (oth (py c)) b fullShare (tK m c) ∗ ptV c (oth (py c)) b fullShare (tV m c))
/-- of the merging, -/
def m3 : sProp 𝕄 := iprop(ptR c b fullShare (tR m c) ∗ atPos ER (dmaCell c (obR b)) 1 ∅ 0)
/-- and of the closing waits. -/
def m4 : sProp 𝕄 :=
  iprop((ptA oA c b (tO m c) ∗ ptA oF c b (tO m c) ∗ semVal (dmaCell c (outS b)) 0)
    ∗ ptK c (py c) b fullShare.right (tK m c) ∗ ptV c (py c) b fullShare.right (tV m c) ∗ ptS c b fullShare (tS m c)
    ∗ atPos ER (dmaCell c (kvS 0 b)) 1 ∅ 0 ∗ atPos ER (dmaCell c (kvS 1 b)) 1 ∅ 0 ∗ atPos ER (dmaCell c (obS b)) 1 ∅ 0)

/-- The row at the head of the body, with the copies in under way, and after each phase. -/
def r0 : sProp 𝕄 := iprop(pIn m c b ∗ p1 c b ∗ p2 c b ∗ p3 c b ∗ p4 c b)
def rf : sProp 𝕄 := iprop(pFl m c b ∗ p1 c b ∗ p2 c b ∗ p3 c b ∗ p4 c b)
def r1 : sProp 𝕄 := iprop(m1 m c b ∗ l1 m c b ∗ cr1 c b ∗ barX c b ∗ flight qA qF c (inS 0 b) b (aQ m c) (aQ m c) ∗ p2 c b ∗ p3 c b ∗ p4 c b)
def r2 : sProp 𝕄 := iprop(m1 m c b ∗ cr1 c b ∗ m2 m c b ∗ upO m c b (oAll b (px c)) ∗ cred (tallyAt (dmaCell c (obS b)) () N) ∗ p3 c b ∗ p4 c b)
def r3 : sProp 𝕄 := iprop(m1 m c b ∗ cr1 c b ∗ m2 m c b ∗ cred (tallyAt (dmaCell c (obS b)) () N) ∗ m3 m c b ∗ flight oF oA c (outS b) b (tO m c) (tO m c) ∗ p4 c b)
def r4 : sProp 𝕄 := iprop(m1 m c b ∗ m2 m c b ∗ m3 m c b ∗ m4 m c b)

end Pieces

/-! ## The phases -/

/-- The tables of a half agree with the device's place. -/
def TabsOk (c : Dev nD) (T : Tabs) : Prop :=
  ∀ b : Fin 4, T.o b = ![(py c).val, b.val, 0, 0] ∧ T.o' b = ![(py c).val, b.val, 0, 0] ∧ T.dk b = yn c ∧ T.dv b = yn c ∧ T.dd b = xn c

theorem gath_at (X : Dev nD → Vec F S4x256x1024 .f32) (c : Dev nD) (b : Fin 4) :
    (fun i => gath X (px c) ((rS (py c) b).emb i)) = kvPay (rowOf (X c) b (px c)) := by
  have h := gath_read X (px c) (py c) b
  rwa [dev_self] at h

theorem rsem_k (b : Fin 4) : kvR 0 b = rsem ⟨2 * b.val, by omega⟩ := by revert b; decide
theorem rsem_v (b : Fin 4) : kvR 1 b = rsem ⟨2 * b.val + 1, by omega⟩ := by revert b; decide

theorem tK_yn (c : Dev nD) : tK m (yn c) = tK m c := by show gath _ (px (yn c)) = gath _ (px c); rw [px_yn]
theorem tV_yn (c : Dev nD) : tV m (yn c) = tV m c := by show gath _ (px (yn c)) = gath _ (px c); rw [px_yn]

theorem in_phase (c : Dev nD) (b : Fin 4) (k : Pg F) (Q : PUnit → sProp 𝕄) :
    iprop(r0 m c b ∗ (rf m c b -∗ WP c k Q)) ⊢ WP c (inRow b k) Q := by
  unfold r0 rf pIn pFl inRow inBlk
  iintro ⟨⟨⟨⟨HkA, ⟨%f1, HkF⟩, Hs1⟩, ⟨HvA, ⟨%f2, HvF⟩, Hs2⟩, HqA, ⟨%f0, HqF⟩, Hs0⟩, Hrest⟩, Hk⟩
  iapply (dma_wp kA kF c (inS 1 b) b (aK m c) f1 (aK m c) rfl)
  isplitl [HkA]; · iexact HkA
  isplitl [HkF]; · iexact HkF
  isplitl [Hs1]; · iexact Hs1
  iintro HK
  iapply (dma_wp vA vF c (inS 2 b) b (aV m c) f2 (aV m c) rfl)
  isplitl [HvA]; · iexact HvA
  isplitl [HvF]; · iexact HvF
  isplitl [Hs2]; · iexact Hs2
  iintro HV
  iapply (dma_wp qA qF c (inS 0 b) b (aQ m c) f0 (aQ m c) rfl)
  isplitl [HqA]; · iexact HqA
  isplitl [HqF]; · iexact HqF
  isplitl [Hs0]; · iexact Hs0
  iintro HQ
  iapply Hk
  isplitr [Hrest]
  · isplitl [HK]; · iexact HK
    isplitl [HV]; · iexact HV
    iexact HQ
  iexact Hrest

theorem kv_phase (c : Dev nD) (T : Tabs) (hT : TabsOk c T) (b : Fin 4) (k : Pg F) (Q : PUnit → sProp 𝕄) :
    iprop(ctx m ∗ rf m c b ∗ (barY c b ∗ barX c b) ∗ ow c (owe c (2 * b.val)) ∗ ((r1 m c b ∗ ow c (owe c (2 * b.val + 2))) -∗ WP c k Q))
      ⊢ WP c (kvRow T (px c) b k) Q := by
  obtain ⟨ho, ho', hk, hv, -⟩ := hT b
  unfold rf pFl p1 kvRow barY
  iintro ⟨#Hc, ⟨⟨HfK, HfV, HfQ⟩, ⟨HK, HV, Ht1, Ht2, Ht3, Ht4⟩, Hrest⟩, ⟨⟨HyK, HyV⟩, HX⟩, HO, Hk⟩
  iapply (kv_wp m c kA kF kB (Memref.isWhole_whole _) rfl (inS 1 b) (kvS 0 b) (kvR 0 b) b ⟨2 * b.val, by omega⟩
    (in_lt 1 b) (kvS_ge 0 b) (kvR_ge 0 b) (by show 2 * b.val < 8; omega) (rsem_k b) (T.o b) (T.ho b) (T.hp b) (T.o' b) (T.ho' b) (T.hw b) (T.dk b) ho ho' hk rfl
    (aK m c) (aK m c) (rowOf (aK m c) b (px c)) rfl (tK m c) (tK m (yn c)) (gath_at (aK m) c b) (by rw [tK_yn]) (pay_kS m c b)
    (by rw [pay_kR m (yn c) b, py_yn, oth_oth]))
  isplitr; · iexact Hc
  isplitl [HfK]; · iexact HfK
  isplitl [HK]; · iexact HK
  isplitl [HyK]; · iexact HyK
  isplitl [Ht1]; · iexact Ht1
  isplitl [Ht2]; · iexact Ht2
  isplitl [HO]; · iexact HO
  iintro ⟨HkF, HkA, Hs1, HKl, Hc1, HO⟩
  iapply (kv_wp m c vA vF vB (Memref.isWhole_whole _) rfl (inS 2 b) (kvS 1 b) (kvR 1 b) b ⟨2 * b.val + 1, by omega⟩
    (in_lt 2 b) (kvS_ge 1 b) (kvR_ge 1 b) (by show 2 * b.val + 1 < 8; omega) (rsem_v b) (T.o b) (T.ho b) (T.hp b) (T.o' b) (T.ho' b) (T.hw b) (T.dv b) ho ho' hv rfl
    (aV m c) (aV m c) (rowOf (aV m c) b (px c)) rfl (tV m c) (tV m (yn c)) (gath_at (aV m) c b) (by rw [tV_yn]) (pay_vS m c b)
    (by rw [pay_vR m (yn c) b, py_yn, oth_oth]))
  isplitr; · iexact Hc
  isplitl [HfV]; · iexact HfV
  isplitl [HV]; · iexact HV
  isplitl [HyV]; · iexact HyV
  isplitl [Ht3]; · iexact Ht3
  isplitl [Ht4]; · iexact Ht4
  isplitl [HO]; · iexact HO
  iintro ⟨HvF, HvA, Hs2, HVl, Hc2, HO⟩
  iapply Hk
  unfold r1 m1 l1 cr1
  isplitr [HO]
  · iframe HkF HkA Hs1 HvF HvA Hs2 HKl HVl Hc1 Hc2 HX HfQ Hrest
  iexact HO

theorem att_phase (c : Dev nD) (T : Tabs) (hT : TabsOk c T) (b : Fin 4) (k : Pg F) (Q : PUnit → sProp 𝕄) :
    iprop(ctx m ∗ r1 m c b ∗ ow c (owe c (8 + b.val)) ∗ ((r2 m c b ∗ ow c (owe c (9 + b.val))) -∗ WP c k Q))
      ⊢ WP c (attRow T (px c) b k) Q := by
  unfold r1 p2 l1
  iintro ⟨#Hc, ⟨H1, ⟨HKl, HVl⟩, Hcr, HX, HF, ⟨HQ, Hc0, Ha0, Hc1, Ha1, HO, HS, Ht1, Ht2⟩, Hrest⟩, Ho, Hk⟩
  iapply (att_wp m c T b (hT b).2.2.2.2)
  isplitr; · iexact Hc
  isplitl [HF]; · iexact HF
  isplitl [HQ]; · iexact HQ
  isplitl [Ho]; · iexact Ho
  isplitl [Hc0]; · iexact Hc0
  isplitl [Ha0]; · iexact Ha0
  isplitl [Hc1]; · iexact Hc1
  isplitl [Ha1]; · iexact Ha1
  isplitl [HKl]; · iexact HKl
  isplitl [HVl]; · iexact HVl
  isplitl [HO]; · iexact HO
  isplitl [HS]; · iexact HS
  isplitl [HX]; · iexact HX
  isplitl [Ht1]; · iexact Ht1
  isplitl [Ht2]; · iexact Ht2
  iintro ⟨HqF, HqA, Hs0, HQ, Ha0, Ha1, HKl, HVl, HKr, HVr, Hu, Hc2, Ho⟩
  iapply Hk
  unfold r2 m2 l1
  isplitr [Ho]
  · iframe H1 Hcr HqF HqA Hs0 HQ Ha0 Ha1 HKl HVl HKr HVr Hu Hc2 Hrest
  iexact Ho

theorem fin_phase (c : Dev nD) (b : Fin 4) (k : Pg F) (Q : PUnit → sProp 𝕄) :
    iprop(ctx m ∗ r2 m c b ∗ ow c (owe c 12) ∗ ((r3 m c b ∗ ow c (owe c 12)) -∗ WP c k Q)) ⊢ WP c (finBlk b (px c) k) Q := by
  unfold r2 p3
  iintro ⟨#Hc, ⟨H1, Hcr, H2, Hu, Hc2, ⟨Hc3, Ha3, HA, Hv⟩, Hrest⟩, HO, Hk⟩
  iapply (fin_wp m c b)
  isplitr; · iexact Hc
  isplitl [Hc3]; · iexact Hc3
  isplitl [Ha3]; · iexact Ha3
  isplitl [HO]; · iexact HO
  isplitl [Hu]; · iexact Hu
  isplitl [HA]; · iexact HA
  isplitl [Hv]; · iexact Hv
  iintro ⟨HR, Ha3, HF, HO⟩
  iapply Hk
  unfold r3 m3
  isplitr [HO]
  · iframe H1 Hcr H2 Hc2 HR Ha3 HF Hrest
  iexact HO

theorem end_phase (c : Dev nD) (b : Fin 4)
    (o' : Fin 4 → Nat) (ho' : ∀ a, o' a + S1x1x256x512.size a ≤ S2x4x256x512.size a)
    (hw : (Rect.unit (s := S2x4x256x512) o' S1x1x256x512.size ho').WholeWords (EltTy.packing .bf16)) (k : Pg F) (Q : PUnit → sProp 𝕄) :
    iprop(ctx m ∗ r3 m c b ∗ ow c (owe c 12) ∗ ((r4 m c b ∗ ow c (owe c 12)) -∗ WP c k Q)) ⊢ WP c (endBlk b o' ho' hw k) Q := by
  unfold r3 p4 cr1
  iintro ⟨#Hc, ⟨H1, ⟨Hc0, Hc1⟩, H2, Hc2, H3, HF, Ha0, Ha1, Ha2⟩, HO, Hk⟩
  iapply (end_wp m c b o' ho' hw)
  isplitr; · iexact Hc
  isplitl [HF]; · iexact HF
  isplitl [HO]; · iexact HO
  isplitl [Hc0]; · iexact Hc0
  isplitl [Ha0]; · iexact Ha0
  isplitl [Hc1]; · iexact Hc1
  isplitl [Ha1]; · iexact Ha1
  isplitl [Hc2]; · iexact Hc2
  isplitl [Ha2]; · iexact Ha2
  iintro ⟨HA, Ho, Hv, HK, HV, HS, Ha0, Ha1, Ha2, HO⟩
  iapply Hk
  unfold r4 m4
  isplitr [HO]
  · iframe H1 H2 H3 HA Ho Hv HK HV HS Ha0 Ha1 Ha2
  iexact HO

/-- One half of the heads, from the barrier on. -/
theorem half_wp (c : Dev nD) (T : Tabs) (hT : TabsOk c T) (k : Pg F) (Q : PUnit → sProp 𝕄) :
    iprop(ctx m ∗ (rf m c 0 ∗ rf m c 1 ∗ rf m c 2 ∗ rf m c 3) ∗ (barY c 0 ∗ barY c 1 ∗ barY c 2 ∗ barY c 3)
        ∗ (barX c 0 ∗ barX c 1 ∗ barX c 2 ∗ barX c 3) ∗ ow c (owe c 0)
        ∗ (((r4 m c 0 ∗ r4 m c 1 ∗ r4 m c 2 ∗ r4 m c 3) ∗ ow c (owe c 12)) -∗ WP c k Q))
      ⊢ WP c (half T (px c) k) Q := by
  unfold half
  iintro ⟨#Hc, ⟨H0, H1, H2, H3⟩, ⟨Y0, Y1, Y2, Y3⟩, ⟨X0, X1, X2, X3⟩, HO, Hk⟩
  iapply (kv_phase m c T hT 0)
  isplitr; · iexact Hc
  isplitl [H0]; · iexact H0
  isplitl [Y0 X0]
  · isplitl [Y0]; · iexact Y0
    iexact X0
  isplitl [HO]; · iexact HO
  iintro ⟨H0, HO⟩
  iapply (kv_phase m c T hT 1)
  isplitr; · iexact Hc
  isplitl [H1]; · iexact H1
  isplitl [Y1 X1]
  · isplitl [Y1]; · iexact Y1
    iexact X1
  isplitl [HO]; · iexact HO
  iintro ⟨H1, HO⟩
  iapply (kv_phase m c T hT 2)
  isplitr; · iexact Hc
  isplitl [H2]; · iexact H2
  isplitl [Y2 X2]
  · isplitl [Y2]; · iexact Y2
    iexact X2
  isplitl [HO]; · iexact HO
  iintro ⟨H2, HO⟩
  iapply (kv_phase m c T hT 3)
  isplitr; · iexact Hc
  isplitl [H3]; · iexact H3
  isplitl [Y3 X3]
  · isplitl [Y3]; · iexact Y3
    iexact X3
  isplitl [HO]; · iexact HO
  iintro ⟨H3, HO⟩
  iapply (att_phase m c T hT 0)
  isplitr; · iexact Hc
  isplitl [H0]; · iexact H0
  isplitl [HO]; · iexact HO
  iintro ⟨H0, HO⟩
  iapply (att_phase m c T hT 1)
  isplitr; · iexact Hc
  isplitl [H1]; · iexact H1
  isplitl [HO]; · iexact HO
  iintro ⟨H1, HO⟩
  iapply (att_phase m c T hT 2)
  isplitr; · iexact Hc
  isplitl [H2]; · iexact H2
  isplitl [HO]; · iexact HO
  iintro ⟨H2, HO⟩
  iapply (att_phase m c T hT 3)
  isplitr; · iexact Hc
  isplitl [H3]; · iexact H3
  isplitl [HO]; · iexact HO
  iintro ⟨H3, HO⟩
  iapply (fin_phase m c 0)
  isplitr; · iexact Hc
  isplitl [H0]; · iexact H0
  isplitl [HO]; · iexact HO
  iintro ⟨H0, HO⟩
  iapply (fin_phase m c 1)
  isplitr; · iexact Hc
  isplitl [H1]; · iexact H1
  isplitl [HO]; · iexact HO
  iintro ⟨H1, HO⟩
  iapply (fin_phase m c 2)
  isplitr; · iexact Hc
  isplitl [H2]; · iexact H2
  isplitl [HO]; · iexact HO
  iintro ⟨H2, HO⟩
  iapply (fin_phase m c 3)
  isplitr; · iexact Hc
  isplitl [H3]; · iexact H3
  isplitl [HO]; · iexact HO
  iintro ⟨H3, HO⟩
  iapply (end_phase m c 0 (T.o' 0) (T.ho' 0) (T.hw 0))
  isplitr; · iexact Hc
  isplitl [H0]; · iexact H0
  isplitl [HO]; · iexact HO
  iintro ⟨H0, HO⟩
  iapply (end_phase m c 1 (T.o' 1) (T.ho' 1) (T.hw 1))
  isplitr; · iexact Hc
  isplitl [H1]; · iexact H1
  isplitl [HO]; · iexact HO
  iintro ⟨H1, HO⟩
  iapply (end_phase m c 2 (T.o' 2) (T.ho' 2) (T.hw 2))
  isplitr; · iexact Hc
  isplitl [H2]; · iexact H2
  isplitl [HO]; · iexact HO
  iintro ⟨H2, HO⟩
  iapply (end_phase m c 3 (T.o' 3) (T.ho' 3) (T.hw 3))
  isplitr; · iexact Hc
  isplitl [H3]; · iexact H3
  isplitl [HO]; · iexact HO
  iintro ⟨H3, HO⟩
  iapply Hk
  isplitr [HO]
  · isplitl [H0]; · iexact H0
    isplitl [H1]; · iexact H1
    isplitl [H2]; · iexact H2
    iexact H3
  iexact HO

end Cert.KernelIdeal.Att

end
-- ==== Proof.BodyEq.lean ====
/- The printed body is the body written in blocks. -/
module

public import proofs.«01_k».proof.Proof.Blocks
public import Idealize.ShloMosaic.Lib.Tactic
public import proofs.«01_k».proof.Proof.Gen.KernelIdeal.Launch

@[expose] public section

noncomputable section

namespace Cert.KernelIdeal.Att

open Idealize.ShloMosaic Idealize.ShloMosaic.TcCoe
open Idealize.SL.Sem
open Cert.KernelIdeal Cert.KernelIdeal.Gen

variable {F : FTy → Type} [FloatOps F]

set_option maxRecDepth 65536 in
/-- The printed body is the body written in blocks: by definitional unfolding. -/
theorem body_eq (c : Dev nD) : bodyAt0 (F := F) t0_0 = bodyOf c := by
  sl_kernel_rfl

end Cert.KernelIdeal.Att

end
-- ==== Proof.BodyWp.lean ====
/- The run of the whole body of a device. -/
module

public import proofs.«01_k».proof.Proof.Half
public import proofs.«01_k».proof.Proof.BodyEq

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

theorem cond1_iff (c : Dev nD) : k0_cond1 c = 1#1 ↔ px c = 0 := by revert c; decide +kernel
theorem cond2_iff (c : Dev nD) : k0_cond2 c = 1#1 ↔ px c = 1 := by revert c; decide +kernel
theorem dev1_yn (c : Dev nD) : (⟨k0_dev1 c, k0_dev1_lt c⟩ : Dev nD) = yn c := by revert c; decide +kernel
theorem dev2_xn (c : Dev nD) : (⟨k0_dev2 c, k0_dev2_lt c⟩ : Dev nD) = xn c := by revert c; decide +kernel

theorem tabs1_ok (c : Dev nD) (h : k0_cond1 c = 1#1) : TabsOk c (tabs1 c h) := by
  revert h; revert c; unfold TabsOk; decide +kernel
theorem tabs2_ok (c : Dev nD) (h : k0_cond2 c = 1#1) : TabsOk c (tabs2 c h) := by
  revert h; revert c; unfold TabsOk; decide +kernel

abbrev four (Φ : Fin 4 → sProp 𝕄) : sProp 𝕄 := iprop(Φ 0 ∗ Φ 1 ∗ Φ 2 ∗ Φ 3)

/-- What the tail of the body takes. -/
def tailPre (c : Dev nD) : sProp 𝕄 :=
  iprop(four (rf m c) ∗ four (barY c) ∗ four (barX c) ∗ ow c (owe c 0))
def tailPost (c : Dev nD) : sProp 𝕄 := iprop(four (r4 m c) ∗ ow c (owe c 12))

theorem ret_wp (c : Dev nD) (Q : PUnit → sProp 𝕄) : Q ⟨⟩ ⊢ WP c (.ret ⟨⟩) Q :=
  (fupd_intro (PROP := sProp 𝕄) (P := Q ⟨⟩) (E := Set.univ)).trans (Entails.of_eq (wp_ret frame (wpE (defs₀ (F := F)) 𝒱₀ (c : Thread nD τ) none) Set.univ PUnit.unit Q).symm)
theorem dev_wp (c : Dev nD) (k : Dev nD → Pg F) (Q : PUnit → sProp 𝕄) : WP c (k c) Q ⊢ WP c (.op .deviceId k) Q :=
  Entails.of_eq (wp_deviceId (defs := defs₀ (F := F)) 𝒱₀ (c : Thread nD τ) none Set.univ).symm

theorem half_run (c : Dev nD) (T : Tabs) (hT : TabsOk c T) (Q : PUnit → sProp 𝕄) :
    iprop(ctx m ∗ tailPre m c ∗ (tailPost m c -∗ Q ⟨⟩)) ⊢ WP c (half T (px c) (.ret ⟨⟩)) Q := by
  unfold tailPre tailPost
  iintro ⟨#Hc, ⟨HR, HY, HX, HO⟩, Hk⟩
  iapply (half_wp m c T hT)
  isplitr; · iexact Hc
  isplitl [HR]; · iexact HR
  isplitl [HY]; · iexact HY
  isplitl [HX]; · iexact HX
  isplitl [HO]; · iexact HO
  iintro H
  iapply (ret_wp c Q)
  iapply Hk
  iexact H

/-- A program whose value is dropped, then a value. -/
theorem bind_wp {α : Type} (c : Dev nD) (p : Prog (TpuEff nD τ sig (Elt F) Λ₀ .tc) α) (k : α → Pg F) (Q : PUnit → sProp 𝕄) :
    wp frame (wpE (defs₀ (F := F)) 𝒱₀ (c : Thread nD τ) none) Set.univ p (fun a => WP c (k a) Q) ⊢ WP c (Prog.bind p k) Q :=
  Entails.of_eq (wp_bind frame (wpE (defs₀ (F := F)) 𝒱₀ (c : Thread nD τ) none) Set.univ p k Q).symm
theorem bind_ret {α : Type} (p : Pg F) (a : α) (k : α → Pg F) :
    Prog.bind (Prog.bind p fun _ => (.ret a : Prog (TpuEff nD τ sig (Elt F) Λ₀ .tc) α)) k = Prog.bind p fun _ => k a := by
  induction p with
  | ret _ => rfl
  | op e f ih => exact congrArg (Prog.op e) (funext ih)

/-- The body from the barrier on is the half of the device's place. -/
theorem tail_eq0 (c : Dev nD) (h1 : k0_cond1 c = 1#1) (h2 : ¬ k0_cond2 c = 1#1) :
    tailOf (F := F) c = Prog.bind (half (tabs1 c h1) 0 (.ret ⟨⟩)) fun _ => .ret ⟨⟩ := by
  unfold tailOf
  rw [dif_pos h1, dif_neg h2]
  exact bind_ret _ _ _
theorem tail_eq1 (c : Dev nD) (h1 : ¬ k0_cond1 c = 1#1) (h2 : k0_cond2 c = 1#1) :
    tailOf (F := F) c = half (tabs2 c h2) 1 (.ret ⟨⟩) := by
  unfold tailOf
  rw [dif_neg h1, dif_pos h2]
  rfl

theorem tail_wp (c : Dev nD) (Q : PUnit → sProp 𝕄) :
    iprop(ctx m ∗ tailPre m c ∗ (tailPost m c -∗ Q ⟨⟩)) ⊢ WP c (tailOf c) Q := by
  by_cases h : px c = 0
  · have h1 := (cond1_iff c).mpr h
    have h2 : ¬ k0_cond2 c = 1#1 := fun h' => by rw [cond2_iff, h] at h'; exact absurd h' (by decide)
    rw [tail_eq0 c h1 h2]
    have hr := half_run m c (tabs1 c h1) (tabs1_ok c h1) (fun _ => WP c (.ret ⟨⟩) Q)
    rw [h] at hr
    iintro ⟨Hc, HP, Hk⟩
    iapply (bind_wp c _ _ Q)
    iapply hr
    isplitl [Hc]; · iexact Hc
    isplitl [HP]; · iexact HP
    iintro H
    iapply (ret_wp c Q)
    iapply Hk
    iexact H
  · have h' : px c = 1 := by revert h; generalize px c = x; revert x; decide
    have h1 : ¬ k0_cond1 c = 1#1 := fun h'' => h ((cond1_iff c).mp h'')
    have h2 := (cond2_iff c).mpr h'
    rw [tail_eq1 c h1 h2]
    have hr := half_run m c (tabs2 c h2) (tabs2_ok c h2) Q
    rw [h'] at hr
    exact hr

/-! ## The barrier -/

/-- What a device gives away at the barrier. -/
def land (c : Dev nD) (b : Fin 4) : sProp 𝕄 :=
  iprop(((∃ f, ptK c (oth (py c)) b fullShare f) ∗ (∃ f, ptV c (oth (py c)) b fullShare f)) ∗ (∃ f, ptR c b fullShare f))

theorem barY_yn (c : Dev nD) (b : Fin 4) :
    barY (F := F) (yn c) b = iprop((∃ f, ptK c (oth (py c)) b fullShare f) ∗ (∃ f, ptV c (oth (py c)) b fullShare f)) := by
  unfold barY; rw [yn_yn, py_yn]
theorem barX_xn (c : Dev nD) (b : Fin 4) : barX (F := F) (xn c) b = iprop(∃ f, ptR c b fullShare f) := by
  unfold barX; rw [xn_xn]

/-- The two duties a device pays at its neighbours' barriers. -/
def barToks (c : Dev nD) : sProp 𝕄 := iprop(dutyTok ER (barCell (yn c)) 0 false ∗ dutyTok ER (barCell (xn c)) 0 true)

theorem barrier_wp (c : Dev nD) (Q : PUnit → sProp 𝕄) (k : Pg F) :
    iprop(ctx m ∗ four (land c) ∗ barToks c ∗ cred (tallyAt (barCell c) () 2) ∗ atPos ER (barCell c) 0 ∅ 0 ∗ ow c (O₀ c)
        ∗ ((four (barY c) ∗ four (barX c) ∗ atPos ER (barCell c) 1 ∅ 0 ∗ ow c (owe c 0)) -∗ WP c k Q))
      ⊢ WP c (.op (.semSignal (Dev.tc (⟨k0_dev1 c, k0_dev1_lt c⟩ : Dev nD)) (sig.barrier 0 rfl) 1) fun _ =>
          .op (.semSignal (Dev.tc (⟨k0_dev2 c, k0_dev2_lt c⟩ : Dev nD)) (sig.barrier 0 rfl) 1) fun _ =>
          .op (.semWait (sig.barrier 0 rfl) 2) fun _ => k) Q := by
  rw [dev1_yn, dev2_xn]
  unfold ow barToks land
  iintro ⟨#Hc, ⟨⟨HY0, HX0⟩, ⟨HY1, HX1⟩, ⟨HY2, HX2⟩, ⟨HY3, HX3⟩⟩, ⟨HtY, HtX⟩, Hcr, Hat, ⟨%W, HO⟩, Hk⟩
  ihave H := (ctx_bar m (yn c)) $$ Hc
  icases H with ⟨⟨%κ₁, #HI₁⟩, #HR₁⟩
  ihave H' := (ctx_bar m (xn c)) $$ Hc
  icases H' with ⟨⟨%κ₂, #HI₂⟩, #HR₂⟩
  ihave H'' := (ctx_bar m c) $$ Hc
  icases H'' with ⟨⟨%κ₀, #HI₀⟩, -⟩
  iapply (Rounds.wp_signal 𝒱₀ ER (rd m) (c : Thread nD τ) none (dst := (yn c : Thread nD τ)) (κ := κ₁)
      (d := false) (by rw [duties_bar]; exact Finset.mem_univ _) (amount_bar m (yn c) false) () (O₁ c) rfl)
    $$ [HO HtY HY0 HY1 HY2 HY3]
  · isplitr; · iexact HI₁
    isplitl [HO]; · iexact HO
    isplitl [HtY]; · iexact HtY
    isplitl [HY0 HY1 HY2 HY3]
    · iapply (Entails.of_eq ((payload_barY m (yn c)).trans (bigSep4 _)).symm)
      isplitl [HY0]; · iapply (Entails.of_eq (barY_yn c 0).symm); iexact HY0
      isplitl [HY1]; · iapply (Entails.of_eq (barY_yn c 1).symm); iexact HY1
      isplitl [HY2]; · iapply (Entails.of_eq (barY_yn c 2).symm); iexact HY2
      iapply (Entails.of_eq (barY_yn c 3).symm); iexact HY3
    iexact HR₁
  iintro HO
  iapply (Rounds.wp_signal 𝒱₀ ER (rd m) (c : Thread nD τ) none (dst := (xn c : Thread nD τ)) (κ := κ₂)
      (d := true) (by rw [duties_bar]; exact Finset.mem_univ _) (amount_bar m (xn c) true) () (owe c 0) rfl)
    $$ [HO HtX HX0 HX1 HX2 HX3]
  · isplitr; · iexact HI₂
    isplitl [HO]; · iexact HO
    isplitl [HtX]; · iexact HtX
    isplitl [HX0 HX1 HX2 HX3]
    · iapply (Entails.of_eq ((payload_barX m (xn c)).trans (bigSep4 _)).symm)
      isplitl [HX0]; · iapply (Entails.of_eq (barX_xn c 0).symm); iexact HX0
      isplitl [HX1]; · iapply (Entails.of_eq (barX_xn c 1).symm); iexact HX1
      isplitl [HX2]; · iapply (Entails.of_eq (barX_xn c 2).symm); iexact HX2
      iapply (Entails.of_eq (barX_xn c 3).symm); iexact HX3
    iexact HR₂
  iintro HO
  iapply (Rounds.wp_wait_rest_token 𝒱₀ ER (rd m) (c : Thread nD τ) none (κ := κ₀)
      (wpE_semWait_eq 𝒱₀ (c : Thread nD τ) none Set.univ) (Set.mem_univ _) () (O := owe c 0) (W := W) (R := 0) (m := 0) (T := ∅)
      (by rw [Nat.zero_add, expect_bar])) $$ [Hcr HO Hat]
  · isplitr; · iexact HI₀
    isplitl [Hcr]; · iexact Hcr
    isplitl [HO]; · iexact HO
    isplitr
    · iapply (may_wait c (.reg barS) 1 0 (le_refl 1) (fun j _ => by rw [lv_rsem]; split <;> decide))
      iapply (ctx_lev m); iexact Hc
    iexact Hat
  iintro ⟨HO, Hat, -, Hpay⟩
  ihave Hp := (Entails.of_eq (rest_bar m c)) $$ Hpay
  icases Hp with ⟨HpY, HpX⟩
  ihave HpY := (Entails.of_eq (bigSep4 _)) $$ HpY
  ihave HpX := (Entails.of_eq (bigSep4 _)) $$ HpX
  iapply Hk
  isplitl [HpY]; · iexact HpY
  isplitl [HpX]; · iexact HpX
  isplitl [Hat]; · iexact Hat
  iexists _; iexact HO

/-- The whole body. -/
theorem body_wp (c : Dev nD) (Q : PUnit → sProp 𝕄) :
    iprop(ctx m ∗ four (r0 m c) ∗ four (land c) ∗ barToks c ∗ cred (tallyAt (barCell c) () 2) ∗ atPos ER (barCell c) 0 ∅ 0 ∗ ow c (O₀ c)
        ∗ ((four (r4 m c) ∗ atPos ER (barCell c) 1 ∅ 0 ∗ ow c (owe c 12)) -∗ Q ⟨⟩))
      ⊢ WP c (bodyOf c) Q := by
  unfold bodyOf
  iintro ⟨#Hc, ⟨H0, H1, H2, H3⟩, HL, HT, Hcr, Hat, HO, Hk⟩
  iapply (dev_wp c _ Q)
  iapply (in_phase m c 0); isplitl [H0]; · iexact H0
  iintro H0
  iapply (in_phase m c 1); isplitl [H1]; · iexact H1
  iintro H1
  iapply (in_phase m c 2); isplitl [H2]; · iexact H2
  iintro H2
  iapply (in_phase m c 3); isplitl [H3]; · iexact H3
  iintro H3
  iapply (barrier_wp m c Q (tailOf c))
  isplitr; · iexact Hc
  isplitl [HL]; · iexact HL
  isplitl [HT]; · iexact HT
  isplitl [Hcr]; · iexact Hcr
  isplitl [Hat]; · iexact Hat
  isplitl [HO]; · iexact HO
  iintro ⟨HY, HX, Hat, HO⟩
  iapply (tail_wp m c Q)
  isplitr; · iexact Hc
  unfold tailPre tailPost
  isplitl [H0 H1 H2 H3 HY HX HO]
  · isplitl [H0 H1 H2 H3]
    · isplitl [H0]; · iexact H0
      isplitl [H1]; · iexact H1
      isplitl [H2]; · iexact H2
      iexact H3
    isplitl [HY]; · iexact HY
    isplitl [HX]; · iexact HX
    iexact HO
  iintro ⟨HR, HO⟩
  iapply Hk
  isplitl [HR]; · iexact HR
  isplitl [Hat]; · iexact Hat
  iexact HO

end Cert.KernelIdeal.Att

end
-- ==== Proof.Whole.lean ====
/- Whole buffers and their rows. -/
module

public import Idealize.ShloMosaic.Lib.Ring
public import proofs.«01_k».proof.Proof.BodyWp

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

/-! ## Whole buffers and their rows -/

section Rects

theorem rA_disjoint (b b' : Fin 4) (h : b ≠ b') : Disjoint (rA b).set (rA b').set := by
  rw [Finset.disjoint_left]
  intro i h1 h2
  rw [Rect.mem_set_unit] at h1 h2
  have e1 := h1 0; have e2 := h2 0
  simp only [Matrix.cons_val_zero] at e1 e2
  change b.val ≤ _ ∧ _ < b.val + 1 at e1
  change b'.val ≤ _ ∧ _ < b'.val + 1 at e2
  exact h (Fin.ext (by omega))
theorem rA_cover : Finset.univ.biUnion (fun b => (rA b).set) = Finset.univ := by
  ext i
  simp only [Finset.mem_biUnion, Finset.mem_univ, true_and, iff_true]
  refine ⟨i 0, ?_⟩
  rw [Rect.mem_set_unit]
  intro a
  have h1 : (i 1).val < 256 := (i 1).isLt
  have h2 : (i 2).val < 1024 := (i 2).isLt
  fin_cases a
  · exact ⟨Nat.le_refl _, Nat.lt_succ_self _⟩
  · exact ⟨Nat.zero_le _, by show (i 1).val < 0 + 256; omega⟩
  · exact ⟨Nat.zero_le _, by show (i 2).val < 0 + 1024; omega⟩

theorem rB_disjoint (b b' : Fin 4) (h : b ≠ b') : Disjoint (rB' b).set (rB' b').set := by
  rw [Finset.disjoint_left]
  intro i h1 h2
  rw [Rect.mem_set_unit] at h1 h2
  have e1 := h1 0; have e2 := h2 0
  simp only [Matrix.cons_val_zero] at e1 e2
  change b.val ≤ _ ∧ _ < b.val + 1 at e1
  change b'.val ≤ _ ∧ _ < b'.val + 1 at e2
  exact h (Fin.ext (by omega))
theorem rB_cover : Finset.univ.biUnion (fun b => (rB' b).set) = Finset.univ := by
  ext i
  simp only [Finset.mem_biUnion, Finset.mem_univ, true_and, iff_true]
  refine ⟨i 0, ?_⟩
  rw [Rect.mem_set_unit]
  intro a
  have h1 : (i 1).val < 256 := (i 1).isLt
  have h2 : (i 2).val < 512 := (i 2).isLt
  fin_cases a
  · exact ⟨Nat.le_refl _, Nat.lt_succ_self _⟩
  · exact ⟨Nat.zero_le _, by show (i 1).val < 0 + 256; omega⟩
  · exact ⟨Nat.zero_le _, by show (i 2).val < 0 + 512; omega⟩

theorem rS_disjoint (p p' : Fin 2 × Fin 4) (h : p ≠ p') : Disjoint (rS p.1 p.2).set (rS p'.1 p'.2).set := by
  rw [Finset.disjoint_left]
  intro i h1 h2
  rw [Rect.mem_set_unit] at h1 h2
  have e1 := h1 0; have e2 := h2 0
  have e3 := h1 1; have e4 := h2 1
  change p.1.val ≤ _ ∧ _ < p.1.val + 1 at e1
  change p'.1.val ≤ _ ∧ _ < p'.1.val + 1 at e2
  change p.2.val ≤ _ ∧ _ < p.2.val + 1 at e3
  change p'.2.val ≤ _ ∧ _ < p'.2.val + 1 at e4
  exact h (Prod.ext (Fin.ext (by omega)) (Fin.ext (by omega)))
theorem rS_cover : Finset.univ.biUnion (fun p : Fin 2 × Fin 4 => (rS p.1 p.2).set) = Finset.univ := by
  ext i
  simp only [Finset.mem_biUnion, Finset.mem_univ, true_and, iff_true]
  refine ⟨(i 0, i 1), ?_⟩
  rw [Rect.mem_set_unit]
  intro a
  have h1 : (i 2).val < 256 := (i 2).isLt
  have h2 : (i 3).val < 512 := (i 3).isLt
  fin_cases a
  · exact ⟨Nat.le_refl _, Nat.lt_succ_self _⟩
  · exact ⟨Nat.le_refl _, Nat.lt_succ_self _⟩
  · exact ⟨Nat.zero_le _, by show (i 2).val < 0 + 256; omega⟩
  · exact ⟨Nat.zero_le _, by show (i 3).val < 0 + 512; omega⟩

end Rects

section Rows
variable (c : Dev nD)

/-- A view of a whole buffer cut by rectangles that partition its shape. -/
theorem cut_disjoint {κ : Kind} {sp : Space} {s : Shape} {e : EltTy} (v : View sig κ sp s e) {B : Type} (r : B → Rect s)
    (hd : ∀ b b', b ≠ b' → Disjoint (r b).set (r b').set) (b b' : B) (h : b ≠ b') :
    Disjoint (α := Finset v.ty.Idx) (v.slice (r b)).set (v.slice (r b')).set := by
  rw [View.set_slice, View.set_slice, Finset.disjoint_map]; exact hd b b' h
theorem cut_cover {κ : Kind} {sp : Space} {s : Shape} {e : EltTy} (v : View sig κ sp s e) (hv : v.set = Finset.univ) {B : Type} [Fintype B]
    (r : B → Rect s) (hc : Finset.univ.biUnion (fun b => (r b).set) = Finset.univ) :
    (Finset.univ.biUnion (fun b => show Finset v.ty.Idx from (v.slice (r b)).set) : Finset v.ty.Idx) = Finset.univ := by
  ext i
  simp only [Finset.mem_biUnion, Finset.mem_univ, true_and, iff_true]
  have hi : i ∈ v.set := hv ▸ Finset.mem_univ i
  obtain ⟨x, -, rfl⟩ := Finset.mem_map.mp hi
  have hx : x ∈ Finset.univ.biUnion (fun b => (r b).set) := hc ▸ Finset.mem_univ x
  obtain ⟨b, -, hb⟩ := Finset.mem_biUnion.mp hx
  exact ⟨b, by rw [View.set_slice]; exact Finset.mem_map_of_mem _ hb⟩

theorem mono4 {Φ Ψ : Fin 4 → sProp 𝕄} (h : ∀ b, Φ b ⊢ Ψ b) : bigSep Finset.univ Φ ⊢ bigSep Finset.univ Ψ :=
  bigSep_mono fun b _ => h b

theorem cut_pt {sp : Space} {s : Shape} {e : EltTy} (v : View sig .tc sp s e) (hv : v.set = Finset.univ) {B : Type} [Fintype B] [DecidableEq B] (r : B → Rect s)
    (hd : ∀ b b', b ≠ b' → Disjoint (r b).set (r b').set) (hc : Finset.univ.biUnion (fun b => (r b).set) = Finset.univ)
    (I : B → Finset (Idx (v.loc (c : Thread nD τ)))) (hI : ∀ b, I b = (v.slice (r b)).set) (f : Buf (Elt F) (v.loc (c : Thread nD τ))) :
    (v.loc (c : Thread nD τ) ↦{fullShare} f : sProp 𝕄) = bigSep Finset.univ fun b => v.loc (c : Thread nD τ) ↦[I b]{fullShare} f := by
  obtain rfl : I = fun b => (v.slice (r b)).set := funext hI
  have h1 : ∀ b b' : B, b ≠ b' → Disjoint (α := Finset v.ty.Idx) (v.slice (r b)).set (v.slice (r b')).set := cut_disjoint v r hd
  have h2 := cut_cover v hv r hc
  exact Ring.pointsTo_blocks (Val := Elt F) (Ix := Unit) (Name := ℕ) (U := UU) (Lvl := ℕ) (ℓ := v.loc (c : Thread nD τ)) (q := fullShare)
    (fun b => show Finset v.ty.Idx from (v.slice (r b)).set) h1 h2 f

variable {sp : Space}

section A
variable (M : Memref sig .tc sp S4x256x1024 .f32) (hM : M.view.set = Finset.univ)
include hM

theorem rowsA (f : Buf (Elt F) (M.view.loc (c : Thread nD τ))) :
    (M.view.loc (c : Thread nD τ) ↦{fullShare} f : sProp 𝕄) = bigSep Finset.univ fun b : Fin 4 => ptA M c b f :=
  cut_pt c M.view hM rA rA_disjoint rA_cover (fun b => (rowA M b).view.set) (fun b => rowA_set M b) f
theorem rowsA_some :
    (iprop(∃ f, M.view.loc (c : Thread nD τ) ↦{fullShare} f) : sProp 𝕄) ⊢ bigSep Finset.univ fun b : Fin 4 => iprop(∃ f, ptA M c b f) := by
  iintro ⟨%f, H⟩
  have e := (Entails.of_eq (rowsA c M hM f)).trans
    (mono4 (Φ := fun b : Fin 4 => ptA M c b f) (Ψ := fun b : Fin 4 => iprop(∃ f, ptA M c b f)) fun b => by iintro H; iexists f; iexact H)
  iapply e; iexact H
theorem rowsA_whole (f : Buf (Elt F) (M.view.loc (c : Thread nD τ))) :
    (bigSep Finset.univ fun b : Fin 4 => (ptA M c b f : sProp 𝕄)) ⊢ iprop(∃ f, M.view.loc (c : Thread nD τ) ↦{fullShare} f) := by
  iintro H; iexists f
  iapply (Entails.of_eq (rowsA c M hM f).symm); iexact H
end A

section B
variable (M : Memref sig .tc .vmem S4x256x512 .bf16) (hM : M.view.set = Finset.univ)
include hM

theorem rowsB (f : Buf (Elt F) (M.view.loc (c : Thread nD τ))) :
    (M.view.loc (c : Thread nD τ) ↦{fullShare} f : sProp 𝕄)
      = bigSep Finset.univ fun b : Fin 4 => (rowB M b).view.loc (c : Thread nD τ) ↦[(rowB M b).view.set]{fullShare} f :=
  cut_pt c M.view hM rB' rB_disjoint rB_cover (fun b => (rowB M b).view.set) (fun b => rowB_set M b) f
theorem rowsB_some :
    (iprop(∃ f, M.view.loc (c : Thread nD τ) ↦{fullShare} f) : sProp 𝕄)
      ⊢ bigSep Finset.univ fun b : Fin 4 => iprop(∃ f, (rowB M b).view.loc (c : Thread nD τ) ↦[(rowB M b).view.set]{fullShare} f) := by
  iintro ⟨%f, H⟩
  have e := (Entails.of_eq (rowsB c M hM f)).trans
    (mono4 (Φ := fun b : Fin 4 => iprop((rowB M b).view.loc (c : Thread nD τ) ↦[(rowB M b).view.set]{fullShare} f))
    (Ψ := fun b : Fin 4 => iprop(∃ f, (rowB M b).view.loc (c : Thread nD τ) ↦[(rowB M b).view.set]{fullShare} f)) fun b => by iintro H; iexists f; iexact H)
  iapply e; iexact H
theorem rowsB_whole (f : Buf (Elt F) (M.view.loc (c : Thread nD τ))) :
    (bigSep Finset.univ fun b : Fin 4 => ((rowB M b).view.loc (c : Thread nD τ) ↦[(rowB M b).view.set]{fullShare} f : sProp 𝕄))
      ⊢ iprop(∃ f, M.view.loc (c : Thread nD τ) ↦{fullShare} f) := by
  iintro H; iexists f
  iapply (Entails.of_eq (rowsB c M hM f).symm); iexact H
end B

section S
variable (M : Memref sig .tc .vmem S2x4x256x512 .bf16) (hM : M.view.set = Finset.univ)

/-- A slot of a gathered array. -/
abbrev ptM (s : Fin 2) (b : Fin 4) (q : PosShare TreeShare) (f : Buf (Elt F) (M.view.loc (c : Thread nD τ))) : sProp 𝕄 :=
  (slot M s b).view.loc (c : Thread nD τ) ↦[(slot M s b).view.set]{q} f

include hM

theorem rowsS (f : Buf (Elt F) (M.view.loc (c : Thread nD τ))) :
    (M.view.loc (c : Thread nD τ) ↦{fullShare} f : sProp 𝕄)
      = bigSep Finset.univ fun b : Fin 4 => iprop(ptM c M (py c) b fullShare f ∗ ptM c M (oth (py c)) b fullShare f) := by
  have h := cut_pt (F := F) c M.view hM (fun p : Fin 2 × Fin 4 => rS p.1 p.2) rS_disjoint rS_cover (fun p => (slot M p.1 p.2).view.set)
    (fun p => slot_set M p.1 p.2) f
  refine h.trans ?_
  rw [bigSep_univ_prod, bigSep_univ_eq_bigSepL [0, 1] (by decide) (by decide)]
  refine Eq.trans ?_ (bigSep_sep' Finset.univ (fun b : Fin 4 => ptM c M (py c) b fullShare f) (fun b => ptM c M (oth (py c)) b fullShare f)).symm
  have e := slots c (fun s q => bigSep Finset.univ fun b : Fin 4 => ptM c M s b q f) fullShare fullShare
  simp only [ite_self] at e
  exact e.symm
theorem rowsS_some :
    (iprop(∃ f, M.view.loc (c : Thread nD τ) ↦{fullShare} f) : sProp 𝕄)
      ⊢ bigSep Finset.univ fun b : Fin 4 => iprop((∃ f, ptM c M (py c) b fullShare f) ∗ ∃ f, ptM c M (oth (py c)) b fullShare f) := by
  iintro ⟨%f, H⟩
  have e := (Entails.of_eq (rowsS c M hM f)).trans
    (mono4 (Φ := fun b : Fin 4 => iprop(ptM c M (py c) b fullShare f ∗ ptM c M (oth (py c)) b fullShare f))
    (Ψ := fun b : Fin 4 => iprop((∃ f, ptM c M (py c) b fullShare f) ∗ ∃ f, ptM c M (oth (py c)) b fullShare f)) fun b => by
      iintro ⟨H1, H2⟩
      isplitl [H1]
      · iexists f; iexact H1
      · iexists f; iexact H2)
  iapply e; iexact H
/-- The slots at the end: the own one as its two halves. -/
theorem rowsS_whole (f : Buf (Elt F) (M.view.loc (c : Thread nD τ))) :
    (bigSep Finset.univ fun b : Fin 4 => (iprop((ptM c M (py c) b fullShare.left f ∗ ptM c M (py c) b fullShare.right f) ∗ ptM c M (oth (py c)) b fullShare f) : sProp 𝕄))
      ⊢ iprop(∃ f, M.view.loc (c : Thread nD τ) ↦{fullShare} f) := by
  iintro H; iexists f
  iapply (Entails.of_eq (rowsS c M hM f).symm)
  iapply (mono4 (Ψ := fun b : Fin 4 => iprop(ptM c M (py c) b fullShare f ∗ ptM c M (oth (py c)) b fullShare f))
    (Φ := fun b : Fin 4 => iprop((ptM c M (py c) b fullShare.left f ∗ ptM c M (py c) b fullShare.right f) ∗ ptM c M (oth (py c)) b fullShare f)) fun b => by
      iintro ⟨H1, H2⟩
      isplitl [H1]
      · iapply (pointsTo_share (PosShare.mem_left_op_right fullShare)).2; iexact H1
      · iexact H2)
  iexact H
end S

end Rows

end Cert.KernelIdeal.Att

end
-- ==== Proof.Enter.lean ====
/- From whole buffers to a device's rows and back, and the closing of its cells. -/
module

public import proofs.«01_k».proof.Proof.Whole

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

section Hold
variable (c : Dev nD)

/-- The arguments and the result, whole. -/
def args (X : Vec F S4x256x1024 .f32) : sProp 𝕄 :=
  iprop((qA.view.loc (c : Thread nD τ) ↦{fullShare} aQ m c) ∗ (kA.view.loc (c : Thread nD τ) ↦{fullShare} aK m c)
    ∗ (vA.view.loc (c : Thread nD τ) ↦{fullShare} aV m c) ∗ (oA.view.loc (c : Thread nD τ) ↦{fullShare} X))
/-- The scratch buffers, whole at some contents. -/
def scratch : sProp 𝕄 :=
  iprop((∃ f, qF.view.loc (c : Thread nD τ) ↦{fullShare} f) ∗ (∃ f, kF.view.loc (c : Thread nD τ) ↦{fullShare} f)
    ∗ (∃ f, vF.view.loc (c : Thread nD τ) ↦{fullShare} f) ∗ (∃ f, oF.view.loc (c : Thread nD τ) ↦{fullShare} f)
    ∗ (∃ f, qB.view.loc (c : Thread nD τ) ↦{fullShare} f) ∗ (∃ f, kB.view.loc (c : Thread nD τ) ↦{fullShare} f)
    ∗ (∃ f, vB.view.loc (c : Thread nD τ) ↦{fullShare} f) ∗ (∃ f, sB.view.loc (c : Thread nD τ) ↦{fullShare} f)
    ∗ (∃ f, rB.view.loc (c : Thread nD τ) ↦{fullShare} f))

variable (b : Fin 4)

/-- A row's semaphores of local copies, at zero. -/
def lsem : sProp 𝕄 :=
  iprop(semVal (dmaCell c (inS 0 b)) 0 ∗ semVal (dmaCell c (inS 1 b)) 0 ∗ semVal (dmaCell c (inS 2 b)) 0 ∗ semVal (dmaCell c (outS b)) 0)
/-- The duties a row's transfers pay, -/
def toks : sProp 𝕄 :=
  iprop(dutyTok ER (dmaCell c (kvS 0 b)) 0 false ∗ dutyTok ER (dmaCell (yn c) (kvR 0 b)) 0 false
    ∗ dutyTok ER (dmaCell c (kvS 1 b)) 0 false ∗ dutyTok ER (dmaCell (yn c) (kvR 1 b)) 0 false
    ∗ dutyTok ER (dmaCell c (obS b)) 0 false ∗ dutyTok ER (dmaCell (xn c) (obR b)) 0 false)
/-- its places at its six semaphores, -/
def ats (R : ℕ) : sProp 𝕄 :=
  iprop(atPos ER (dmaCell c (kvS 0 b)) R ∅ 0 ∗ atPos ER (dmaCell c (kvS 1 b)) R ∅ 0 ∗ atPos ER (dmaCell c (kvR 0 b)) R ∅ 0
    ∗ atPos ER (dmaCell c (kvR 1 b)) R ∅ 0 ∗ atPos ER (dmaCell c (obS b)) R ∅ 0 ∗ atPos ER (dmaCell c (obR b)) R ∅ 0)
/-- and the credit of its three arrivals. -/
def crd : sProp 𝕄 :=
  iprop(cred (tallyAt (dmaCell c (kvR 0 b)) () N) ∗ cred (tallyAt (dmaCell c (kvR 1 b)) () N) ∗ cred (tallyAt (dmaCell c (obR b)) () N))

end Hold

section Rows
variable (c : Dev nD)

theorem two {A B C D : sProp 𝕄} (h : A ⊢ B) (h' : C ⊢ D) : iprop(A ∗ C) ⊢ iprop(B ∗ D) := by
  iintro ⟨HA, HC⟩
  isplitl [HA]
  · iapply h; iexact HA
  · iapply h'; iexact HC

theorem four_eq (Φ : Fin 4 → sProp 𝕄) : bigSep Finset.univ Φ = four Φ := bigSep4 Φ

theorem row_enter (X : Vec F S4x256x1024 .f32) (b : Fin 4) :
    (iprop((ptA qA c b (aQ m c) ∗ ptA kA c b (aK m c) ∗ ptA vA c b (aV m c) ∗ ptA oA c b X)
      ∗ ((∃ f, ptA qF c b f) ∗ (∃ f, ptA kF c b f) ∗ (∃ f, ptA vF c b f) ∗ (∃ f, ptA oF c b f) ∗ (∃ f, ptQ c b f)
        ∗ ((∃ f, ptM c kB (py c) b fullShare f) ∗ ∃ f, ptM c kB (oth (py c)) b fullShare f)
        ∗ ((∃ f, ptM c vB (py c) b fullShare f) ∗ ∃ f, ptM c vB (oth (py c)) b fullShare f)
        ∗ (∃ f, ptS c b fullShare f) ∗ (∃ f, ptR c b fullShare f))
      ∗ lsem c b ∗ toks c b ∗ ats c b 0 ∗ crd c b) : sProp 𝕄) ⊢ iprop(r0 m c b ∗ land c b) := by
  unfold lsem toks ats crd r0 land pIn p1 p2 p3 p4
  iintro ⟨⟨Hq, Hk, Hv, Ho⟩, ⟨HqF, HkF, HvF, HoF, HqB, ⟨HkB, HkB'⟩, ⟨HvB, HvB'⟩, HsB, HrB⟩, ⟨S0, S1, S2, S3⟩, ⟨T1, T2, T3, T4, T5, T6⟩, ⟨A1, A2, A3, A4, A5, A6⟩, C1, C2, C3⟩
  isplitr [HkB' HvB' HrB]
  · isplitl [Hq Hk Hv HqF HkF HvF S0 S1 S2]
    · iframe Hq Hk Hv HqF HkF HvF S0 S1 S2
    isplitl [HkB HvB T1 T2 T3 T4]
    · isplitl [HkB]; · iexact HkB
      isplitl [HvB]; · iexact HvB
      iframe T1 T2 T3 T4
    isplitl [HqB C1 A3 C2 A4 HoF HsB T5 T6]
    · iframe HqB C1 A3 C2 A4 HoF HsB T5 T6
    isplitl [C3 A6 Ho S3]
    · isplitl [C3]; · iexact C3
      isplitl [A6]; · iexact A6
      isplitl [Ho]; · iexists X; iexact Ho
      iexact S3
    iframe A1 A2 A5
  · isplitr [HrB]
    · isplitl [HkB']; · iexact HkB'
      iexact HvB'
    iexact HrB

theorem row_exit (b : Fin 4) :
    (r4 m c b : sProp 𝕄) ⊢ iprop((ptA qA c b (aQ m c) ∗ ptA kA c b (aK m c) ∗ ptA vA c b (aV m c) ∗ ptA oA c b (tO m c))
      ∗ (ptA qF c b (aQ m c) ∗ ptA kF c b (aK m c) ∗ ptA vF c b (aV m c) ∗ ptA oF c b (tO m c) ∗ ptQ c b (tQ m c)
        ∗ ((ptM c kB (py c) b fullShare.left (tK m c) ∗ ptM c kB (py c) b fullShare.right (tK m c)) ∗ ptM c kB (oth (py c)) b fullShare (tK m c))
        ∗ ((ptM c vB (py c) b fullShare.left (tV m c) ∗ ptM c vB (py c) b fullShare.right (tV m c)) ∗ ptM c vB (oth (py c)) b fullShare (tV m c))
        ∗ ptS c b fullShare (tS m c) ∗ ptR c b fullShare (tR m c))
      ∗ lsem c b ∗ ats c b 1) := by
  unfold lsem ats r4 m1 m2 m3 m4 l1
  iintro ⟨⟨⟨HkF, Hk, S1⟩, HvF, Hv, S2⟩, ⟨⟨HqF, Hq, S0⟩, HqB, A3, A4, ⟨HkL, HvL⟩, HkB', HvB'⟩, ⟨HrB, A6⟩, ⟨Ho, HoF, S3⟩, HkR, HvR, HsB, A1, A2, A5⟩
  isplitl [Hq Hk Hv Ho]
  · iframe Hq Hk Hv Ho
  isplitr [S0 S1 S2 S3 A1 A2 A3 A4 A5 A6]
  · isplitl [HqF]; · iexact HqF
    isplitl [HkF]; · iexact HkF
    isplitl [HvF]; · iexact HvF
    isplitl [HoF]; · iexact HoF
    isplitl [HqB]; · iexact HqB
    isplitl [HkL HkR HkB']
    · isplitr [HkB']
      · isplitl [HkL]; · iexact HkL
        iexact HkR
      iexact HkB'
    isplitl [HvL HvR HvB']
    · isplitr [HvB']
      · isplitl [HvL]; · iexact HvL
        iexact HvR
      iexact HvB'
    isplitl [HsB]; · iexact HsB
    iexact HrB
  iframe S0 S1 S2 S3 A1 A2 A3 A4 A5 A6

/-- Whole buffers and the cells' pieces make the four rows. -/
theorem enter (X : Vec F S4x256x1024 .f32) :
    iprop(args m c X ∗ scratch c ∗ bigSep Finset.univ (lsem c) ∗ bigSep Finset.univ (toks c)
        ∗ bigSep Finset.univ (fun b => ats c b 0) ∗ bigSep Finset.univ (crd c))
      ⊢ (iprop(four (r0 m c) ∗ four (land c)) : sProp 𝕄) := by
  rw [← four_eq, ← four_eq, ← bigSep_sep' Finset.univ (r0 m c) (land c)]
  refine BIBase.Entails.trans ?_ (mono4 (row_enter m c X))
  simp only [bigSep_sep']
  unfold args scratch
  refine two ?_ (two ?_ .rfl)
  · exact two (Entails.of_eq (rowsA c qA (View.set_whole _) _)) <| two (Entails.of_eq (rowsA c kA (View.set_whole _) _)) <|
      two (Entails.of_eq (rowsA c vA (View.set_whole _) _)) (Entails.of_eq (rowsA c oA (View.set_whole _) _))
  · have hk := rowsS_some (F := F) c kB (View.set_whole _)
    have hv := rowsS_some (F := F) c vB (View.set_whole _)
    rw [bigSep_sep'] at hk hv
    exact two (rowsA_some c qF (View.set_whole _)) <| two (rowsA_some c kF (View.set_whole _)) <|
      two (rowsA_some c vF (View.set_whole _)) <| two (rowsA_some c oF (View.set_whole _)) <|
      two (rowsB_some c qB (View.set_whole _)) <| two hk <| two hv <|
      two (rowsB_some c sB (View.set_whole _)) (rowsB_some c rB (View.set_whole _))

/-- and the four rows, at the end, make whole buffers again. -/
theorem leave :
    (four (r4 m c) : sProp 𝕄)
      ⊢ iprop(args m c (tO m c) ∗ scratch c ∗ bigSep Finset.univ (lsem c) ∗ bigSep Finset.univ (fun b => ats c b 1)) := by
  rw [← four_eq]
  refine BIBase.Entails.trans (mono4 (row_exit m c)) ?_
  have hk := rowsS_whole (F := F) c kB (View.set_whole _) (tK m c)
  have hv := rowsS_whole (F := F) c vB (View.set_whole _) (tV m c)
  simp only [bigSep_sep'] at hk hv ⊢
  unfold args scratch
  refine two ?_ (two ?_ .rfl)
  · exact two (Entails.of_eq (rowsA c qA (View.set_whole _) _).symm) <| two (Entails.of_eq (rowsA c kA (View.set_whole _) _).symm) <|
      two (Entails.of_eq (rowsA c vA (View.set_whole _) _).symm) (Entails.of_eq (rowsA c oA (View.set_whole _) _).symm)
  · exact two (rowsA_whole c qF (View.set_whole _) _) <| two (rowsA_whole c kF (View.set_whole _) _) <|
      two (rowsA_whole c vF (View.set_whole _) _) <| two (rowsA_whole c oF (View.set_whole _) _) <|
      two (rowsB_whole c qB (View.set_whole _) _) <| two hk <| two hv <|
      two (rowsB_whole c sB (View.set_whole _) _) (rowsB_whole c rB (View.set_whole _) _)

end Rows

section Close
variable (c : Dev nD)

/-- A semaphore's cell, its one round over, gives its count back at zero. -/
theorem close_dma (q : DmaSem sig) (h : 16 ≤ q.val) :
    iprop(ctx m ∗ atPos ER (dmaCell c q) 1 ∅ 0) ⊢ (iprop(|={Set.univ}=> semVal (dmaCell c q) 0) : sProp 𝕄) := by
  iintro ⟨#Hc, Ha⟩
  ihave ⟨⟨%κ, #Hi⟩, -⟩ := (ctx_dma m c q h) $$ Hc
  iapply (Rounds.cell_close ER (rd m) (Set.mem_univ κ) (fun h => h) (R := 0 + 1) (duties_later m (dmaCell c q)))
  isplitr; · iexact Hi
  iexact Ha
theorem close_bar :
    iprop(ctx m ∗ atPos ER (barCell c) 1 ∅ 0) ⊢ (iprop(|={Set.univ}=> semVal (barCell c) 0) : sProp 𝕄) := by
  iintro ⟨#Hc, Ha⟩
  ihave ⟨⟨%κ, #Hi⟩, -⟩ := (ctx_bar m c) $$ Hc
  iapply (Rounds.cell_close ER (rd m) (Set.mem_univ κ) (fun h => h) (R := 0 + 1) (duties_later m (barCell c)))
  isplitr; · iexact Hi
  iexact Ha

/-- A row's six semaphores of transfers between devices, at zero. -/
def csem (b : Fin 4) : sProp 𝕄 :=
  iprop(semVal (dmaCell c (kvS 0 b)) 0 ∗ semVal (dmaCell c (kvS 1 b)) 0 ∗ semVal (dmaCell c (kvR 0 b)) 0
    ∗ semVal (dmaCell c (kvR 1 b)) 0 ∗ semVal (dmaCell c (obS b)) 0 ∗ semVal (dmaCell c (obR b)) 0)

theorem close_row (b : Fin 4) : iprop(ctx m ∗ ats c b 1) ⊢ (iprop(|={Set.univ}=> csem c b) : sProp 𝕄) := by
  unfold ats csem
  iintro ⟨#Hc, A1, A2, A3, A4, A5, A6⟩
  imod (close_dma m c (kvS 0 b) (kvS_ge 0 b)) $$ [A1] with S1
  · isplitr; · iexact Hc
    iexact A1
  imod (close_dma m c (kvS 1 b) (kvS_ge 1 b)) $$ [A2] with S2
  · isplitr; · iexact Hc
    iexact A2
  imod (close_dma m c (kvR 0 b) (kvR_ge 0 b)) $$ [A3] with S3
  · isplitr; · iexact Hc
    iexact A3
  imod (close_dma m c (kvR 1 b) (kvR_ge 1 b)) $$ [A4] with S4
  · isplitr; · iexact Hc
    iexact A4
  imod (close_dma m c (obS b) (obS_ge b)) $$ [A5] with S5
  · isplitr; · iexact Hc
    iexact A5
  imod (close_dma m c (obR b) (obR_ge b)) $$ [A6] with S6
  · isplitr; · iexact Hc
    iexact A6
  imodintro
  iframe S1 S2 S3 S4 S5 S6

theorem close_rows : iprop(ctx m ∗ bigSep Finset.univ (fun b => ats c b 1)) ⊢ (iprop(|={Set.univ}=> bigSep Finset.univ (csem c)) : sProp 𝕄) := by
  rw [bigSep4, bigSep4]
  iintro ⟨#Hc, A0, A1, A2, A3⟩
  imod (close_row m c 0) $$ [A0] with S0
  · isplitr; · iexact Hc
    iexact A0
  imod (close_row m c 1) $$ [A1] with S1
  · isplitr; · iexact Hc
    iexact A1
  imod (close_row m c 2) $$ [A2] with S2
  · isplitr; · iexact Hc
    iexact A2
  imod (close_row m c 3) $$ [A3] with S3
  · isplitr; · iexact Hc
    iexact A3
  imodintro
  iframe S0 S1 S2 S3

end Close

end Cert.KernelIdeal.Att

end
-- ==== Proof.Deal.lean ====
/- What the launch deals each device: its cells, its places, and the duties it pays. -/
module

public import proofs.«01_k».proof.Proof.Enter

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The semaphores by rows -/

section Sems

/-- A row's six semaphores of transfers between devices. -/
def rowSem (p : Fin 4 × Fin 6) : SemLoc sig := .dma (match p.2 with
  | 0 => kvS 0 p.1 | 1 => kvS 1 p.1 | 2 => kvR 0 p.1 | 3 => kvR 1 p.1 | 4 => obS p.1 | 5 => obR p.1)
/-- A row's four semaphores of local copies. -/
def locSem (p : Fin 4 × Fin 4) : SemLoc sig := .dma (match p.2 with
  | 0 => inS 0 p.1 | 1 => inS 1 p.1 | 2 => inS 2 p.1 | 3 => outS p.1)
/-- The kernel's own semaphores. -/
def osem : (Fin 4 × Fin 4) ⊕ (Fin 4 × Fin 6) → SemLoc sig := Sum.elim locSem rowSem

theorem rowSem_inj : Function.Injective rowSem := by decide
theorem cs_inj : Function.Injective cs := by decide
theorem cs_set : (Finset.univ.map ⟨cs, cs_inj⟩ : Finset (SemLoc sig)) = insert (.reg barS) (Finset.univ.map ⟨rowSem, rowSem_inj⟩) := by decide
theorem ownSemFacts : Pipeline.OwnSemFacts cfg0.spec osem := by decide

/-- All the communicating cells of a device: the barrier's, and six of each row. -/
theorem cells_rows (Φ : SemLoc sig → sProp 𝕄) :
    (bigSep Finset.univ fun k : Fin 25 => Φ (cs k))
      = iprop(Φ (.reg barS) ∗ bigSep Finset.univ fun b : Fin 4 =>
          iprop(Φ (.dma (kvS 0 b)) ∗ Φ (.dma (kvS 1 b)) ∗ Φ (.dma (kvR 0 b)) ∗ Φ (.dma (kvR 1 b)) ∗ Φ (.dma (obS b)) ∗ Φ (.dma (obR b)))) := by
  have h1 : (bigSep Finset.univ fun k : Fin 25 => Φ (cs k)) = bigSep (Finset.univ.map ⟨cs, cs_inj⟩) Φ := (bigSep_map (Φ := Φ) ⟨cs, cs_inj⟩).symm
  rw [h1, cs_set, bigSep_insert (by decide), bigSep_map, bigSep_univ_prod]
  refine congrArg (fun X => iprop(Φ (.reg barS) ∗ X)) (bigSep_congr fun b _ => ?_)
  rw [bigSep_univ_eq_bigSepL [0, 1, 2, 3, 4, 5] (by decide) (by decide)]; rfl

theorem own_rows (c : Dev nD) :
    (Pipeline.ownSems0 (Ix := Unit) (Name := ℕ) (U := UU) (Lvl := ℕ) (Val := Elt F) (τ := τ) osem c : sProp 𝕄)
      = iprop(bigSep Finset.univ (lsem c) ∗ bigSep Finset.univ (csem c)) := by
  unfold Pipeline.ownSems0
  rw [bigSep_univ_sum, bigSep_univ_prod, bigSep_univ_prod]
  refine congrArg₂ (fun X Y => iprop(X ∗ Y)) (bigSep_congr fun b _ => ?_) (bigSep_congr fun b _ => ?_)
  · rw [bigSep_univ_eq_bigSepL [0, 1, 2, 3] (by decide) (by decide)]; rfl
  · rw [bigSep_univ_eq_bigSepL [0, 1, 2, 3, 4, 5] (by decide) (by decide)]; rfl

theorem unscoped_bar (c : Dev nD) : (unscopedSems0 c : sProp 𝕄) = semVal (barCell c) 0 := by
  unfold unscopedSems0; rw [bigSep_eq_bigSepL_of_eq [SemLoc.reg barS] (by decide) (by decide)]; rfl

end Sems

/-! ## The launch element -/

theorem kcell_inj : Function.Injective (kcell : Dev nD × Fin 25 → GSem nD τ sig) := by
  rintro ⟨c, k⟩ ⟨c', k'⟩ h
  have h1 : c = c' := congrArg (fun g : GSem nD τ sig => g.1.1) h
  have h2 : k = k' := cs_inj (congrArg Prod.snd h)
  rw [h1, h2]

/-- Every device's communicating cells. -/
def hubs : Finset (GSem nD τ sig) := Finset.univ.map ⟨kcell, kcell_inj⟩

def tokF (ck : Dev nD × Fin 25) : GSem nD τ sig × ℕ × Bool := (kcell ck, 0, false)
theorem tokF_inj : Function.Injective tokF := fun _ _ h => kcell_inj (congrArg Prod.fst h)
def tokT (c : Dev nD) : GSem nD τ sig × ℕ × Bool := (barCell c, 0, true)
theorem tokT_inj : Function.Injective tokT := fun _ _ h => congrArg (fun x : GSem nD τ sig × ℕ × Bool => x.1.1.1) h
/-- One duty of each cell, and a second of each barrier's. -/
def duty : Finset (GSem nD τ sig × ℕ × Bool) := Finset.univ.map ⟨tokF, tokF_inj⟩ ∪ Finset.univ.map ⟨tokT, tokT_inj⟩
theorem duty_disjoint : Disjoint (Finset.univ.map ⟨tokF, tokF_inj⟩) (Finset.univ.map ⟨tokT, tokT_inj⟩) := by
  rw [Finset.disjoint_left]
  intro x h1 h2
  obtain ⟨a, -, rfl⟩ := Finset.mem_map.mp h1
  obtain ⟨b, -, e⟩ := Finset.mem_map.mp h2
  exact Bool.noConfusion (show true = false from congrArg (fun x : GSem nD τ sig × ℕ × Bool => x.2.2) e)

def u₀ : UU := (initOf (Pipeline.cells cfgs cellOf_inj) (Pipeline.launchToks cfgs cellOf_inj), (initOf hubs duty, 1))

section Deal

variable (c : Dev nD)

/-- The duties of a device's own cells. -/
def mint : sProp 𝕄 := iprop((bigSep Finset.univ fun k : Fin 25 => dutyTok ER (kcell (c, k)) 0 false) ∗ dutyTok ER (barCell c) 0 true)
/-- What the launch element deals a device, -/
def G : sProp 𝕄 :=
  iprop((bigSep Finset.univ fun k : Fin 25 => roundState ER (rd m) (kcell (c, k)) 0)
    ∗ (bigSep Finset.univ fun k : Fin 25 => reached ER (kcell (c, k)) 0)
    ∗ (bigSep Finset.univ fun k : Fin 25 => atPos ER (kcell (c, k)) 0 ∅ 0) ∗ mint c)
/-- what stays with it, -/
def held : sProp 𝕄 :=
  iprop(bigSep Finset.univ (lsem c) ∗ (atPos ER (barCell c) 0 ∅ 0 ∗ bigSep Finset.univ fun b => ats c b 0)
    ∗ barToks c ∗ bigSep Finset.univ (toks c))
/-- and what it holds of the cells in the end. -/
def G' : sProp 𝕄 := iprop((∃ K, records m K) ∗ held c)

end Deal

theorem fund_hubs : BI.own (ER (initOf hubs duty)) ⊢ (|==> bigSep Finset.univ (G m) : sProp 𝕄) := by
  have hX (Φ : GSem nD τ sig → sProp 𝕄) : bigSep hubs Φ = bigSep Finset.univ fun c : Dev nD => bigSep Finset.univ fun k : Fin 25 => Φ (kcell (c, k)) := by
    unfold hubs; rw [bigSep_map, bigSep_univ_prod]; rfl
  have hT : bigSep duty (fun x => (dutyTok ER x.1 x.2.1 x.2.2 : sProp 𝕄)) = bigSep Finset.univ fun c : Dev nD => mint c := by
    unfold duty
    rw [bigSep_union duty_disjoint, bigSep_map, bigSep_map, bigSep_univ_prod]
    unfold mint
    rw [bigSep_sep']; rfl
  iintro HX
  imod (Rounds.fund ER (rd m) hubs duty) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat']; · iexact Hat'
  iexact Htok'

/-- A device's cells are set up. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 25 => iprop(∃ κ : ℕ, cellInv ER (rd m) κ (kcell (c, k))))
          ∗ (bigSep Finset.univ fun k : Fin 25 => reached ER (kcell (c, k)) 0)
          ∗ bigSep Finset.univ (lsem c) ∗ (bigSep Finset.univ fun k : Fin 25 => atPos ER (kcell (c, k)) 0 ∅ 0) ∗ mint c) := by
  have hs : iprop(semVal (barCell c) 0 ∗ bigSep Finset.univ (csem c)) ⊢ (bigSep Finset.univ fun k : Fin 25 => (semVal (kcell (c, k)) 0 : sProp 𝕄)) :=
    Entails.of_eq (cells_rows (F := F) fun s => semVal ((c : Thread nD τ), s) 0).symm
  have ha : iprop((bigSep Finset.univ fun k : Fin 25 => semVal (kcell (c, k)) 0) ∗ bigSep Finset.univ fun k : Fin 25 => roundState ER (rd m) (kcell (c, k)) 0)
      ⊢ (|={Set.univ}=> bigSep Finset.univ fun k : Fin 25 => iprop(∃ κ : ℕ, cellInv ER (rd m) κ (kcell (c, k))) : sProp 𝕄) := by
    rw [← bigSep_sep']
    exact (bigSep_mono fun k _ => (Rounds.body_intro ER (rd m) (kcell (c, k))).trans inv_alloc).trans (bigSep_fupd _ _)
  rw [own_rows, unscoped_bar]
  unfold G
  iintro ⟨⟨Hl, Hcs⟩, Hb, Hst, Hr, Hat, Htok⟩
  ihave Hv := hs $$ [Hb Hcs]
  · isplitl [Hb]; · iexact Hb
    iexact Hcs
  imod ha $$ [Hv Hst] with Hinv
  · isplitl [Hv]; · iexact Hv
    iexact Hst
  imodintro
  isplitl [Hinv]; · iexact Hinv
  isplitl [Hr]; · iexact Hr
  isplitl [Hl]; · iexact Hl
  isplitl [Hat]; · iexact Hat
  iexact Htok

/-! ## The duties dealt to those who pay them -/

def yE : Dev nD ≃ Dev nD := ⟨yn, yn, yn_yn, yn_yn⟩
def xE : Dev nD ≃ Dev nD := ⟨xn, xn, xn_xn, xn_xn⟩

/-- The duty of one cell. -/
abbrev dt (c : Dev nD) (s : SemLoc sig) : sProp 𝕄 := dutyTok ER ((c : Thread nD τ), s) 0 false

theorem over_y (Φ : Dev nD → sProp 𝕄) : bigSep Finset.univ Φ = bigSep Finset.univ fun c => Φ (yn c) := bigSep_univ_equiv yE Φ
theorem over_x (Φ : Dev nD → sProp 𝕄) : bigSep Finset.univ Φ = bigSep Finset.univ fun c => Φ (xn c) := bigSep_univ_equiv xE Φ

theorem dealt :
    (bigSep Finset.univ fun c : Dev nD => (mint c : sProp 𝕄))
      ⊢ bigSep Finset.univ fun c : Dev nD => iprop(barToks c ∗ bigSep Finset.univ (toks c)) := by
  have e1 : ∀ c : Dev nD, (mint c : sProp 𝕄) = iprop((dt c (.reg barS) ∗ bigSep Finset.univ fun b : Fin 4 =>
          iprop(dt c (.dma (kvS 0 b)) ∗ dt c (.dma (kvS 1 b)) ∗ dt c (.dma (kvR 0 b)) ∗ dt c (.dma (kvR 1 b)) ∗ dt c (.dma (obS b)) ∗ dt c (.dma (obR b))))
        ∗ dutyTok ER (barCell c) 0 true) := fun c => by
    unfold mint
    exact congrArg (fun X => iprop(X ∗ dutyTok ER (barCell c) 0 true)) (cells_rows (F := F) fun s => dt c s)
  rw [bigSep_congr (s := Finset.univ) fun c _ => e1 c]
  unfold barToks toks
  simp only [bigSep_sep']
  rw [over_y fun c => dt c (.reg barS), over_x fun c => dutyTok ER (barCell c) 0 true,
    over_y fun c => bigSep Finset.univ fun b : Fin 4 => dt c (.dma (kvR 0 b)),
    over_y fun c => bigSep Finset.univ fun b : Fin 4 => dt c (.dma (kvR 1 b)),
    over_x fun c => bigSep Finset.univ fun b : Fin 4 => dt c (.dma (obR b))]
  iintro ⟨⟨H0, H1, H2, H3, H4, H5, H6⟩, H7⟩
  isplitl [H0 H7]
  · isplitl [H0]; · iexact H0
    iexact H7
  isplitl [H1]; · iexact H1
  isplitl [H3]; · iexact H3
  isplitl [H2]; · iexact H2
  isplitl [H4]; · iexact H4
  isplitl [H5]; · iexact H5
  iexact H6

theorem share_out {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (two (BI.bigSep_of_persistent Finset.univ R) .rfl).trans (by rw [← bigSep_sep']; exact bigSep_mono fun c _ => h c)

theorem regroup :
    (bigSep Finset.univ fun c : Dev nD => iprop((bigSep Finset.univ fun k : Fin 25 => iprop(∃ κ : ℕ, cellInv ER (rd m) κ (kcell (c, k))))
          ∗ (bigSep Finset.univ fun k : Fin 25 => reached ER (kcell (c, k)) 0)
          ∗ bigSep Finset.univ (lsem c) ∗ (bigSep Finset.univ fun k : Fin 25 => atPos ER (kcell (c, k)) 0 ∅ 0) ∗ mint c) : sProp 𝕄)
      ⊢ bigSep Finset.univ (G' m) := by
  have hat : ∀ c : Dev nD, (bigSep Finset.univ fun k : Fin 25 => (atPos ER (kcell (c, k)) 0 ∅ 0 : sProp 𝕄))
      = iprop(atPos ER (barCell c) 0 ∅ 0 ∗ bigSep Finset.univ fun b => ats c b 0) := fun c =>
    cells_rows (F := F) fun s => atPos ER ((c : Thread nD τ), s) 0 ∅ 0
  have hI : (bigSep Finset.univ fun c : Dev nD => bigSep Finset.univ fun k : Fin 25 => (iprop(∃ κ : ℕ, cellInv ER (rd m) κ (kcell (c, k))) : sProp 𝕄))
      = bigSep Finset.univ fun ck : Dev nD × Fin 25 => iprop(∃ κ : ℕ, cellInv ER (rd m) κ (kcell ck)) :=
    (bigSep_univ_prod fun ck : Dev nD × Fin 25 => iprop(∃ κ : ℕ, cellInv ER (rd m) κ (kcell ck))).symm
  have hR : (bigSep Finset.univ fun c : Dev nD => bigSep Finset.univ fun k : Fin 25 => (reached ER (kcell (c, k)) 0 : sProp 𝕄))
      = bigSep Finset.univ fun ck : Dev nD × Fin 25 => reached ER (kcell ck) 0 :=
    (bigSep_univ_prod fun ck : Dev nD × Fin 25 => (reached ER (kcell ck) 0 : sProp 𝕄)).symm
  have hh : (bigSep Finset.univ fun c : Dev nD => (held c : sProp 𝕄))
      = iprop((bigSep Finset.univ fun c : Dev nD => bigSep Finset.univ (lsem c))
        ∗ (bigSep Finset.univ fun c : Dev nD => bigSep Finset.univ fun k : Fin 25 => atPos ER (kcell (c, k)) 0 ∅ 0)
        ∗ bigSep Finset.univ fun c : Dev nD => iprop(barToks c ∗ bigSep Finset.univ (toks c))) := by
    unfold held
    rw [bigSep_sep', bigSep_sep', bigSep_congr (s := Finset.univ) fun c _ => hat c]
  rw [bigSep_sep', bigSep_sep', bigSep_sep', bigSep_sep', hI, hR]
  iintro ⟨HI, #HR, Hl, Hat, Htok⟩
  ihave HK := (BI.bigSep_exists_pi Finset.univ (fun (ck : Dev nD × Fin 25) (κ : ℕ) => (cellInv ER (rd m) κ (kcell ck) : sProp 𝕄))) $$ HI
  icases HK with ⟨%K, #HI⟩
  ihave Htk := (dealt (F := F)) $$ Htok
  have key : iprop(records m K ∗ bigSep Finset.univ fun c : Dev nD => (held c : sProp 𝕄)) ⊢ bigSep Finset.univ (G' m) :=
    share_out fun c => by
      unfold G'
      iintro ⟨HK, Hh⟩
      isplitl [HK]
      · iexists K; iexact HK
      iexact Hh
  iapply key
  isplitr
  · unfold records; isplitl; · iexact HI
    iexact HR
  · iapply (Entails.of_eq hh.symm)
    isplitl [Hl]; · iexact Hl
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Att

end
-- ==== Proof.Run.lean ====
/- The launch, and the kernel's run. -/
module

public import Idealize.ShloMosaic.Lib.Pipeline.CollectiveSegs
public import proofs.«01_k».proof.Proof.Deal

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The credit of a launch -/

section Credit

theorem rcell_iff (c d : Dev nD) (q : DmaSem sig) (j : Fin 12) : dmaCell c q = rcell d j ↔ (c = tgt d j ∧ q = rsem j) :=
  ⟨fun h => ⟨congrArg (fun g : GSem nD τ sig => g.1.1) h, by
      have := congrArg Prod.snd h
      exact SemLoc.dma.inj this⟩, fun h => by rw [h.1, h.2]⟩
theorem one_sender (c : Dev nD) (q : Fin 40) (h : (24 ≤ q.val ∧ q.val < 32) ∨ 36 ≤ q.val) :
    (∑ d : Dev nD, ∑ j : Fin 12, if c = tgt d j ∧ q = rsem j then 1 else 0) = 1 := by
  revert c q; decide

theorem owe_at (c d : Dev nD) (q : DmaSem sig) :
    O₀ d (dmaCell c q) () = ∑ j : Fin 12, if c = tgt d j ∧ q = rsem j then N else 0 := by
  have hb : ∀ e : Dev nD, dmaCell c q ≠ barCell e := fun e h => by cases (congrArg Prod.snd h)
  unfold O₀ O₁ owe
  rw [Pi.add_apply, Finsupp.add_apply, Pi.add_apply, Finsupp.add_apply, tallyAt_ne_cell (hb _), tallyAt_ne_cell (hb _),
    Finsupp.zero_apply, Nat.add_zero, Nat.add_zero, Finset.sum_apply, Finsupp.finset_sum_apply]
  rw [show Finset.univ.filter (fun j : Fin 12 => 0 ≤ j.val) = Finset.univ from by decide]
  refine Finset.sum_congr rfl fun j _ => ?_
  rw [tallyAt_apply]
  exact if_congr ((and_iff_left rfl).trans (rcell_iff c d q j)) rfl rfl

theorem due_dma (c : Dev nD) (q : DmaSem sig) (h : (24 ≤ q.val ∧ q.val < 32) ∨ 36 ≤ q.val) :
    tallyOn (dmaCell c q) (launchCredit (Pipeline.owing O₀) 0 (dmaCell c q)) = (tallyAt (dmaCell c q) () N : CellTallies nD τ sig Unit) := by
  unfold tallyAt; refine congrArg _ (Finsupp.ext fun u => ?_); cases u
  rw [Pipeline.launchCredit_owing, Finsupp.single_eq_same, Finset.sum_congr rfl fun d _ => owe_at c d q]
  have e : ∀ d : Dev nD, (∑ j : Fin 12, if c = tgt d j ∧ q = rsem j then N else 0) = N * ∑ j : Fin 12, if c = tgt d j ∧ q = rsem j then 1 else 0 :=
    fun d => by rw [Finset.mul_sum]; exact Finset.sum_congr rfl fun j _ => by rw [mul_ite, mul_one, mul_zero]
  rw [Finset.sum_congr rfl fun d _ => e d, ← Finset.mul_sum, one_sender c q h, mul_one]

theorem two_signals (c : Dev nD) : (∑ d : Dev nD, ((if c = xn d then 1 else 0) + (if c = yn d then 1 else 0))) = 2 := by
  revert c; decide

theorem due_bar (c : Dev nD) :
    tallyOn (barCell c) (launchCredit (Pipeline.owing O₀) 0 (barCell c)) = (tallyAt (barCell c) () 2 : CellTallies nD τ sig Unit) := by
  have hb : ∀ (d : Dev nD) (j : Fin 12), barCell c ≠ rcell d j := fun e j h => by cases (congrArg Prod.snd h)
  have hz : ∀ d : Dev nD, owe d 0 (barCell c) () = 0 := fun d => by
    unfold owe
    rw [Finset.sum_apply, Finsupp.finset_sum_apply]
    exact Finset.sum_eq_zero fun j _ => by rw [tallyAt_ne_cell (hb d j)]; rfl
  have hc : ∀ e : Dev nD, (barCell c = barCell e) ↔ c = e := fun e => ⟨fun h => congrArg (fun g : GSem nD τ sig => g.1.1) h, fun h => by rw [h]⟩
  unfold tallyAt; refine congrArg _ (Finsupp.ext fun u => ?_); cases u
  rw [Pipeline.launchCredit_owing, Finsupp.single_eq_same]
  refine Eq.trans (Finset.sum_congr rfl fun d _ => ?_) (two_signals c)
  unfold O₀ O₁
  rw [Pi.add_apply, Finsupp.add_apply, Pi.add_apply, Finsupp.add_apply, hz, Nat.zero_add, tallyAt_apply, tallyAt_apply]
  exact congrArg₂ (· + ·) (if_congr ((and_iff_left rfl).trans (hc _)) rfl rfl) (if_congr ((and_iff_left rfl).trans (hc _)) rfl rfl)

theorem creds (c : Dev nD) :
    (Pipeline.launchCred O₀ c : sProp 𝕄) ⊢ iprop(cred (tallyAt (barCell c) () 2) ∗ bigSep Finset.univ (crd c)) := by
  unfold Pipeline.launchCred
  have h0 := bigSep_subset (M := 𝕄) (Finset.subset_univ (Finset.univ.map ⟨cs, cs_inj⟩))
    (Φ := fun s : SemLoc sig => cred (tallyOn ((c : Thread nD τ), s) (launchCredit (Pipeline.owing O₀) 0 ((c : Thread nD τ), s))))
  refine BIBase.Entails.trans h0 ?_
  rw [bigSep_map]
  refine BIBase.Entails.trans (Entails.of_eq (cells_rows (F := F) fun s => cred (tallyOn ((c : Thread nD τ), s) (launchCredit (Pipeline.owing O₀) 0 ((c : Thread nD τ), s))))) ?_
  rw [due_bar]
  refine two .rfl (mono4 fun b => ?_)
  unfold crd
  rw [← due_dma c (kvR 0 b) (Or.inl (by revert b; decide)), ← due_dma c (kvR 1 b) (Or.inl (by revert b; decide)),
    ← due_dma c (obR b) (Or.inr (by revert b; decide))]
  iintro ⟨-, -, H1, H2, -, H3⟩
  isplitl [H1]; · iexact H1
  isplitl [H2]; · iexact H2
  iexact H3

end Credit

/-! ## The body's obligation -/

section Body
variable (c : Dev nD)

/-- What a device holds at the head of the kernel, besides its scratch, -/
def start : sProp 𝕄 :=
  iprop(ctx m ∗ held c ∗ cred (tallyAt (barCell c) () 2) ∗ bigSep Finset.univ (crd c) ∗ args m c (m ((c : Thread nD τ).loc main_v1)))
/-- with it, -/
def Φ₀ : sProp 𝕄 := iprop(start m c ∗ scratch c)
/-- and at the end. -/
def Φ₁ : sProp 𝕄 :=
  iprop(args m c (tO m c) ∗ scratch c ∗ (bigSep Finset.univ (lsem c) ∗ bigSep Finset.univ (csem c)) ∗ semVal (barCell c) 0)

theorem whole_wp (Q : PUnit → sProp 𝕄) :
    iprop(Φ₀ m c ∗ ow c (O₀ c) ∗ ((Φ₁ m c ∗ ow c 0) -∗ Q ⟨⟩)) ⊢ WP c (bodyOf c) Q := by
  unfold Φ₀ start held
  iintro ⟨⟨⟨#Hc, ⟨Hl, ⟨HaB, Ha⟩, HtB, Ht⟩, HcB, Hcr, Hargs⟩, Hscr⟩, HO, Hk⟩
  iapply (wp_fupd (Fr := frame) (wpE := wpE (defs₀ (F := F)) 𝒱₀ (c : Thread nD τ) none) (E := Set.univ) (bodyOf c) Q)
  iapply (body_wp m c fun a => iprop(|={Set.univ}=> Q a))
  ihave Hrows := (enter m c (m ((c : Thread nD τ).loc main_v1))) $$ [Hl Ha Ht Hcr Hargs Hscr]
  · isplitl [Hargs]; · iexact Hargs
    isplitl [Hscr]; · iexact Hscr
    isplitl [Hl]; · iexact Hl
    isplitl [Ht]; · iexact Ht
    isplitl [Ha]; · iexact Ha
    iexact Hcr
  icases Hrows with ⟨Hr, Hland⟩
  isplitr; · iexact Hc
  isplitl [Hr]; · iexact Hr
  isplitl [Hland]; · iexact Hland
  isplitl [HtB]; · iexact HtB
  isplitl [HcB]; · iexact HcB
  isplitl [HaB]; · iexact HaB
  isplitl [HO]; · iexact HO
  iintro ⟨Hr, HaB, HO⟩
  ihave Hlv := (leave m c) $$ Hr
  icases Hlv with ⟨Hargs, Hscr, Hl, Ha⟩
  imod (close_rows m c) $$ [Ha] with Hcs
  · isplitr; · iexact Hc
    iexact Ha
  imod (close_bar m c) $$ [HaB] with HzB
  · isplitr; · iexact Hc
    iexact HaB
  imodintro
  iapply Hk
  unfold Φ₁
  isplitr [HO]
  · isplitl [Hargs]; · iexact Hargs
    isplitl [Hscr]; · iexact Hscr
    isplitl [Hl Hcs]
    · isplitl [Hl]; · iexact Hl
      iexact Hcs
    iexact HzB
  · rw [← owe_done c]; iexact HO

end Body

def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem body_obligation (c : Dev nD) : BodyObligation (dats (F := F) m 0 c) (defs₀ (F := F)) 𝒱₀ () Set.univ := fun t => by
  rw [fin_N0 t]
  have he : (Finset.univ : Finset (Fin cfg0.W)) = ∅ := rfl
  rw [he, bigSep_empty, bigSep_empty]
  show iprop(Φ₀ m c ∗ (dats (F := F) m 0 c).owesAt () t0_0.castSucc ∗ emp)
    ⊢ wp frame (wpE (defs₀ (F := F)) 𝒱₀ c none) Set.univ (bodyAt0 (F := F) t0_0) (fun _ => iprop(Φ₁ m c ∗ (dats (F := F) m 0 c).owesAt () t0_0.succ ∗ emp))
  rw [body_eq c]
  iintro ⟨HΦ, Ho, -⟩
  iapply (whole_wp m c)
  isplitl [HΦ]; · iexact HΦ
  isplitl [Ho]
  · unfold Dat.owesAt Pipeline.owesWithin
    icases Ho with ⟨%W, -, HO⟩
    unfold ow
    iexists W; iexact HO
  iintro ⟨HΦ, HO⟩
  isplitl [HΦ]; · iexact HΦ
  isplitl [HO]
  · unfold ow
    icases HO with ⟨%W, HO⟩
    unfold Dat.owesAt Pipeline.owesWithin
    iexists W
    isplitr; · ipureintro; exact fun _ _ => Or.inl trivial
    iexact HO
  iempintro

/-! ## The launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hargs, Hlev, Hcr, -, HG⟩
  ihave Hc := (creds (F := F) c) $$ Hcr
  icases Hc with ⟨H1, HN⟩
  imodintro
  unfold start G' ctx args
  icases HG with ⟨HK, Hh⟩
  isplitl
  · isplitl [HK Hlev]
    · isplitl [HK]; · iexact HK
      iexact Hlev
    isplitl [Hh]; · iexact Hh
    isplitl [H1]; · iexact H1
    isplitl [HN]; · iexact HN
    iexact Hargs
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What a device gives back of the run: its barrier at zero, its arguments and its result. -/
def back (c : Dev nD) : sProp 𝕄 := iprop(unscopedSems0 c ∗ args m c (tO m c))

theorem phi1_exit (c : Dev nD) :
    (dats m 0 c).Φ (Fin.last cfg0.N) ⊢ iprop(back m c ∗ Pipeline.ownSems0 osem c ∗ Pipeline.scopedRest cfg0.spec c) := by
  rw [show (dats m 0 c).Φ (Fin.last cfg0.N) = Φ₁ m c from rfl, scopedRest0_eq, own_rows]
  unfold Φ₁ back scratch
  rw [unscoped_bar]
  iintro ⟨Hargs, Hscr, Hs, HzB⟩
  isplitl [Hargs HzB]
  · isplitl [HzB]; · iexact HzB
    iexact Hargs
  isplitl [Hs]; · iexact Hs
  iexact Hscr

theorem waits (c : Dev nD) : (levAts L lv : sProp 𝕄) ⊢ Pipeline.cellsWaits cfgs (dats m) () 0 c :=
  Pipeline.cellsWaits_intro cfgs (dats m) () 0 c fun w s t => w.elim0

/-- What the run leaves on a device: its unscoped semaphores at zero, its arguments as they were, and its result. -/
def After (c : Dev nD) (s : MemSt nD τ sig (Elt F)) : Prop :=
  (∀ sm : SemLoc sig, sm.isScoped .tc = false → s.sem ((c.tc : Thread nD τ), sm) = 0)
    ∧ s.mem ((c : Thread nD τ).loc main_arg0) = aQ m c ∧ s.mem ((c : Thread nD τ).loc main_arg1) = aK m c
    ∧ s.mem ((c : Thread nD τ).loc main_arg2) = aV m c ∧ s.mem ((c : Thread nD τ).loc main_v1) = tO m c

theorem read_whole (ℓ : Loc nD τ sig) (f : Buf (Elt F) ℓ) (s' : Phys nD τ sig (Elt F)) :
    iprop(SI s' ∗ ℓ ↦{fullShare} f) ⊢ (⌜s'.mem.mem ℓ = f⌝ : sProp 𝕄) := by
  iintro H
  ihave %h := (SI_pointsTo_agree (st := s') (ℓ := ℓ) (I := Finset.univ) (q := fullShare) (f := f)) $$ H
  ipureintro
  exact funext fun i => h i (Finset.mem_univ i)

theorem back_read (c : Dev nD) (s' : Phys nD τ sig (Elt F)) :
    iprop(back m c ∗ emp ∗ SI s') ⊢ |={Set.univ}=> iprop(⌜After m c s'.mem⌝ ∗ SI s') := by
  unfold back args
  iintro ⟨⟨Hu, Hq, Hk, Hv, Ho⟩, -, HSI⟩
  ihave %hq := (read_whole (qA.view.loc (c : Thread nD τ)) (aQ m c) s') $$ [Hq HSI]
  · isplitl [HSI]; · iexact HSI
    iexact Hq
  ihave %hk := (read_whole (kA.view.loc (c : Thread nD τ)) (aK m c) s') $$ [Hk HSI]
  · isplitl [HSI]; · iexact HSI
    iexact Hk
  ihave %hv := (read_whole (vA.view.loc (c : Thread nD τ)) (aV m c) s') $$ [Hv HSI]
  · isplitl [HSI]; · iexact HSI
    iexact Hv
  ihave %ho := (read_whole (oA.view.loc (c : Thread nD τ)) (tO m c) s') $$ [Ho HSI]
  · isplitl [HSI]; · iexact HSI
    iexact Ho
  imod (Pipeline.unscopedSems0_read (X := (unscopedSems0 c : sProp 𝕄)) (c := c) fupd_intro s') $$ [Hu HSI] with ⟨%hu, HSI⟩
  · isplitl [Hu]; · iexact Hu
    iexact HSI
  imodintro
  isplitr
  · ipureintro; exact ⟨hu, hq, hk, hv, ho⟩
  iexact HSI

set_option maxRecDepth 8000 in
/-- From any memory with zero counters, for any float values: every weakly fair execution of the kernel on its four
    devices ends, with every device's arguments as they were, its result the contents `tO`, and every semaphore at zero. -/
theorem run_main : θ_run defs (onTc (τ := τ) (main (F := F))) (s₀ m ρ) (fun r => (∀ c, After m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H' := (own_pair_emb embR _ _) $$ HX
      icases H' with ⟨HX, -⟩
      imod (fund_hubs m) $$ [HX] with HG
      · iexact HX
      imodintro
      isplitl [HP]; · iexact HP
      iexact HG)
    (hglob := glob m)
    (hA := fun _ w => w.elim0) (hpf := fun _ k => k.elim0)
    (X := start m) (Y := back m) (Z := fun _ => iprop(emp))
    (hX := start_intro m ρ) (hin := phi0_intro m) (hout := phi1_exit m)
    (QY := After m)
    (hY := back_read m)
    (hQ := fun _ h hs => ⟨fun c => (h c).2.2, sem_eq_zero hs fun c => (h c).2.2.1⟩)

end Cert.KernelIdeal.Att

end
-- ==== Proof.KerValue.lean ====
/-
  The kernel's result at the extended reals, read at an index: one head's weighted values over its weights' sum, in the
  blocks of the devices that hold them.
-/
module

public import proofs.«01_k».proof.Proof.Contents
public import Idealize.ShloMosaic.Lib.Pointwise

@[expose] public section

noncomputable section

namespace Cert.KernelIdeal.Val

open Cert.KernelIdeal Cert.KernelIdeal.Gen Idealize.ShloMosaic Idealize.ShloMosaic.TcCoe
open Cert.KernelIdeal.Att hiding ix3 ix4

theorem att3 {n0 n1 n2 : Nat} (a : Fin n0) (b : Fin n1) (c : Fin n2) :
    (Att.ix3 (d := ![n0, n1, n2]) a b c) = ix3 a b c := by
  funext i; match i with | ⟨0, _⟩ => rfl | ⟨1, _⟩ => rfl | ⟨2, _⟩ => rfl
theorem att4 {n0 n1 n2 n3 : Nat} (a : Fin n0) (b : Fin n1) (c : Fin n2) (e : Fin n3) :
    (Att.ix4 (d := ![n0, n1, n2, n3]) a b c e) = ix4 a b c e := by
  funext i; match i with | ⟨0, _⟩ => rfl | ⟨1, _⟩ => rfl | ⟨2, _⟩ => rfl | ⟨3, _⟩ => rfl

/-- The scale, as the extended real its word is. -/
abbrev eighth : EReal := Ideal.ofBits .f32 0x3E000000#32

theorem kvPay_at (v : FVec Ideal S1x256x512 .f32) (r : Fin 256) (l : Fin 512) :
    kvPay (F := Ideal) v (ix4 (0 : Fin 1) (0 : Fin 1) r l) = v (ix3 (0 : Fin 1) r l) := by
  pointwise [kvPay]

theorem qPay_at (v : FVec Ideal S1x256x512 .f32) (r : Fin 256) (l : Fin 512) :
    qPay (F := Ideal) v (ix3 (0 : Fin 1) r l) = v (ix3 (0 : Fin 1) r l) * eighth := by
  pointwise [qPay]

theorem finPay_at (v : FVec Ideal S1x256x512 .bf16) (r : Fin 256) (l : Fin 512) :
    finPay (F := Ideal) v (ix3 (0 : Fin 1) r l) = v (ix3 (0 : Fin 1) r l) := by
  pointwise [finPay]

theorem expP_at (q : FVec Ideal S1x256x64 .bf16) (k : FVec Ideal S1x1x256x64 .bf16) (r j : Fin 256) :
    expP (F := Ideal) q k (ix2 r j) = Ideal.exp (∑ l : Fin 64, q (ix3 (0 : Fin 1) r l) * k (ix4 (0 : Fin 1) (0 : Fin 1) j l)) := by
  pointwise [expP]

theorem headF_at (q : FVec Ideal S1x256x64 .bf16) (k0 k1 v0 v1 : FVec Ideal S1x1x256x64 .bf16) (r : Fin 256) (d : Fin 64) :
    headF (F := Ideal) q k0 k1 v0 v1 (ix2 r d) =
      Ideal.div ((∑ j : Fin 256, expP (F := Ideal) q k0 (ix2 r j) * v0 (ix4 (0 : Fin 1) (0 : Fin 1) j d))
          + ∑ j : Fin 256, expP (F := Ideal) q k1 (ix2 r j) * v1 (ix4 (0 : Fin 1) (0 : Fin 1) j d))
        ((∑ j : Fin 256, expP (F := Ideal) q k0 (ix2 r j)) + ∑ j : Fin 256, expP (F := Ideal) q k1 (ix2 r j)) := by
  pointwise [headF, accP, sumP]

theorem headO_at (q : FVec Ideal S1x256x64 .bf16) (k0 k1 v0 v1 : FVec Ideal S1x1x256x64 .bf16) (r : Fin 256) (d : Fin 64) :
    headO (F := Ideal) q k0 k1 v0 v1 (ix3 (0 : Fin 1) r d) = headF (F := Ideal) q k0 k1 v0 v1 (ix2 r d) := by
  pointwise [headO]

theorem headS_at (q : FVec Ideal S1x256x64 .bf16) (k0 k1 v0 v1 : FVec Ideal S1x1x256x64 .bf16) (r : Fin 256) (d : Fin 64) :
    headS (F := Ideal) q k0 k1 v0 v1 (ix3 (0 : Fin 1) r d) = headF (F := Ideal) q k0 k1 v0 v1 (ix2 r d) := by
  pointwise [headS]

/-! ## The buffers -/

variable (m : (ℓ : Loc nD τ sig) → Buf (Elt Ideal) ℓ)

/-- Lane `l` of head `h`. -/
def lane (h : Fin 16) (l : Fin 64) : Fin 1024 := ⟨h.val * 64 + l.val, by omega⟩
/-- Head `j` of half `x`. -/
def headOf (x : Fin 2) (j : Fin 8) : Fin 16 := ⟨8 * x.val + j.val, by omega⟩

theorem rowOf_at (X : Vec Ideal S4x256x1024 .f32) (b : Fin 4) (x : Fin 2) (j : Fin 8) (r : Fin 256) (d : Fin 64)
    (l : Fin 512) (hl : l.val = 64 * j.val + d.val) :
    rowOf X b x (ix3 (0 : Fin 1) r l) = X (ix3 b r (lane (headOf x j) d)) := by
  show X _ = X _
  congr 1
  funext a
  match a with
  | ⟨0, _⟩ => exact Fin.ext (by show b.val + 1 * 0 = b.val; omega)
  | ⟨1, _⟩ => exact Fin.ext (by show 0 + 1 * r.val = r.val; omega)
  | ⟨2, _⟩ => exact Fin.ext (by
      show 512 * x.val + 1 * l.val = (8 * x.val + j.val) * 64 + d.val
      omega)

theorem lQ_at (c : Dev nD) (b : Fin 4) (j : Fin 8) (r : Fin 256) (d : Fin 64) :
    lQ m c b j (ix3 (0 : Fin 1) r d) = aQ m c (ix3 b r (lane (headOf (px c) j) d)) * eighth := by
  have h0 : ((rJ b j).emb (ix3 (0 : Fin 1) r d)) 0 = b := Fin.ext (by show b.val + 1 * 0 = b.val; omega)
  have h1 : ((rJ b j).emb (ix3 (0 : Fin 1) r d)) 1 = r := Fin.ext (by show 0 + 1 * r.val = r.val; omega)
  unfold lQ tQ
  rw [h0, h1]
  refine (congrArg _ (att3 _ _ _)).trans ((qPay_at _ _ _).trans ?_)
  exact congrArg (· * eighth) (rowOf_at _ b (px c) j r d _ (by show 64 * j.val + 1 * d.val = _; omega))

theorem gath_at (X : Dev nD → Vec Ideal S4x256x1024 .f32) (x s : Fin 2) (b : Fin 4) (j : Fin 8) (r : Fin 256) (d : Fin 64) :
    gath X x ((rK s b j).emb (ix4 (0 : Fin 1) (0 : Fin 1) r d)) = X (dev x s) (ix3 b r (lane (headOf x j) d)) := by
  have h0 : ((rK s b j).emb (ix4 (0 : Fin 1) (0 : Fin 1) r d)) 0 = s := Fin.ext (by show s.val + 1 * 0 = s.val; omega)
  have h1 : ((rK s b j).emb (ix4 (0 : Fin 1) (0 : Fin 1) r d)) 1 = b := Fin.ext (by show b.val + 1 * 0 = b.val; omega)
  have h2 : ((rK s b j).emb (ix4 (0 : Fin 1) (0 : Fin 1) r d)) 2 = r := Fin.ext (by show 0 + 1 * r.val = r.val; omega)
  unfold gath
  rw [h0, h1, h2]
  refine (congrArg _ (att4 _ _ _ _)).trans ((kvPay_at _ _ _).trans ?_)
  exact rowOf_at _ b x j r d _ (by show 64 * j.val + 1 * d.val = _; omega)

/-- The exponential of one score: row `r` of the queries held at `(x, y)` against row `j` of the keys held at `(x, s)`. -/
def ex (x y s : Fin 2) (b : Fin 4) (h : Fin 16) (r j : Fin 256) : EReal :=
  Ideal.exp (∑ l : Fin 64, aQ m (dev x y) (ix3 b r (lane h l)) * eighth * aK m (dev x s) (ix3 b j (lane h l)))

/-- One entry of one head. -/
def entry (x y : Fin 2) (b : Fin 4) (h : Fin 16) (r : Fin 256) (n : Fin 1024) : EReal :=
  Ideal.div ((∑ j : Fin 256, ex m x y 0 b h r j * aV m (dev x 0) (ix3 b j n))
      + ∑ j : Fin 256, ex m x y 1 b h r j * aV m (dev x 1) (ix3 b j n))
    ((∑ j : Fin 256, ex m x y 0 b h r j) + ∑ j : Fin 256, ex m x y 1 b h r j)

theorem expP_ex (c : Dev nD) (s : Fin 2) (b : Fin 4) (j : Fin 8) (r k : Fin 256) :
    expP (F := Ideal) (lQ m c b j) (lK m c s b j) (ix2 r k) = ex m (px c) (py c) s b (headOf (px c) j) r k := by
  rw [expP_at]
  unfold ex
  rw [dev_self]
  congr 1
  refine Finset.sum_congr rfl fun l _ => ?_
  rw [lQ_at]
  congr 1
  exact gath_at (aK m) (px c) s b j k l

theorem head_entry (c : Dev nD) (b : Fin 4) (j : Fin 8) (r : Fin 256) (d : Fin 64) :
    headF (F := Ideal) (lQ m c b j) (lK m c 0 b j) (lK m c 1 b j) (lV m c 0 b j) (lV m c 1 b j) (ix2 r d)
      = entry m (px c) (py c) b (headOf (px c) j) r (lane (headOf (px c) j) d) := by
  rw [headF_at]
  unfold entry
  have hv : ∀ s k, lV m c s b j (ix4 (0 : Fin 1) (0 : Fin 1) k d) = aV m (dev (px c) s) (ix3 b k (lane (headOf (px c) j) d)) :=
    fun s k => gath_at (aV m) (px c) s b j k d
  simp only [expP_ex, hv]

/-- The head of a lane of a whole row. -/
def headAt (n : Fin 1024) : Fin 16 := ⟨n.val / 64, by omega⟩

theorem headOf_sl (n : Fin 1024) : headOf (sd n) (hd (sl n)) = headAt n :=
  Fin.ext (by show 8 * (n.val / 512) + n.val % 512 / 64 = n.val / 64; omega)
theorem lane_sl (n : Fin 1024) : lane (headAt n) (hl (sl n)) = n :=
  Fin.ext (by show n.val / 64 * 64 + n.val % 512 % 64 = n.val; omega)

/-- The result of device `c`, entry by entry. -/
theorem tO_at (c : Dev nD) (b : Fin 4) (r : Fin 256) (n : Fin 1024) :
    tO m c (ix3 b r n) = entry m (sd n) (py c) b (headAt n) r n := by
  show (if sd n = px c then oHead m c b (hd (sl n)) (Att.ix3 (d := S1x256x64.size) (0 : Fin 1) r (hl (sl n)))
    else finPay (lR m c b) (Att.ix3 (d := S1x256x512.size) (0 : Fin 1) r (sl n))) = _
  by_cases h : sd n = px c
  · rw [if_pos h]
    refine (congrArg _ (att3 _ _ _)).trans ((headO_at _ _ _ _ _ _ _).trans ((head_entry m c b _ r _).trans ?_))
    rw [← h, headOf_sl, lane_sl]
  · rw [if_neg h]
    have hx : sd n = px (xn c) := by
      rw [px_xn]
      generalize sd n = x at h
      generalize px c = y at h
      revert x y; decide
    have hb : (rB' b).emb (ix3 (0 : Fin 1) r (sl n)) = ix3 b r (sl n) := by
      funext a
      match a with
      | ⟨0, _⟩ => exact Fin.ext (by show b.val + 1 * 0 = b.val; omega)
      | ⟨1, _⟩ => exact Fin.ext (by show 0 + 1 * r.val = r.val; omega)
      | ⟨2, _⟩ => exact Fin.ext (by show 0 + 1 * (sl n).val = (sl n).val; omega)
    refine (congrArg _ (att3 _ _ _)).trans ((finPay_at _ _ _).trans ?_)
    unfold lR
    rw [hb]
    show sHead m (xn c) b (hd (sl n)) (Att.ix3 (d := S1x256x64.size) (0 : Fin 1) r (hl (sl n))) = _
    refine (congrArg _ (att3 _ _ _)).trans ((headS_at _ _ _ _ _ _ _).trans ((head_entry m (xn c) b _ r _).trans ?_))
    rw [← hx, py_xn, headOf_sl, lane_sl]

end Cert.KernelIdeal.Val

end
-- ==== Proof.Softmax.lean ====
/-
  The two spellings of a softmax-weighted sum over the extended reals: the exponentials' products with the values over
  the exponentials' sum, and the values weighted by exponentials shifted below a real number, each over the shifted
  exponentials' sum. The scores are real; the values are any extended reals.
-/
module

public import Idealize.ShloMosaic.PureOps.Ideal.Laws

@[expose] public section

noncomputable section

namespace Cert.Softmax

open Idealize.ShloMosaic

variable {ι : Type} [Fintype ι] [Nonempty ι]

/-- A sum of reals is that sum of extended reals. -/
theorem coe_sum (f : ι → ℝ) : ((∑ i, f i : ℝ) : EReal) = ∑ i, (f i : EReal) := by
  induction (Finset.univ : Finset ι) using Finset.cons_induction with
  | empty => simp
  | cons a s h ih => rw [Finset.sum_cons, Finset.sum_cons, EReal.coe_add, ih]

/-- A real factor that is not negative distributes over a sum, infinite terms and all. -/
theorem sum_mul_coe (f : ι → EReal) (r : ℝ) (hr : 0 ≤ r) : (∑ i, f i) * (r : EReal) = ∑ i, f i * (r : EReal) := by
  induction (Finset.univ : Finset ι) using Finset.cons_induction with
  | empty => simp
  | cons a s h ih =>
    rw [Finset.sum_cons, Finset.sum_cons,
      EReal.right_distrib_of_nonneg_of_ne_top (EReal.coe_nonneg.2 hr) (EReal.coe_ne_top r), ih]

/-- The greatest of finitely many reals, with `⊥` to start, is a real. -/
theorem fold_max_coe (f : ι → ℝ) : ∃ μ : ℝ, Finset.fold max (⊥ : EReal) (fun i => (f i : EReal)) Finset.univ = μ := by
  obtain ⟨i, -, hi⟩ := Finset.exists_mem_eq_sup (Finset.univ : Finset ι) Finset.univ_nonempty (fun i => (f i : EReal))
  exact ⟨f i, hi⟩

theorem softmax (f : ι → ℝ) (μ : ℝ) (v : ι → EReal) :
    Ideal.div (∑ i, Ideal.exp (f i : EReal) * v i) (∑ i, Ideal.exp (f i : EReal))
      = ∑ i, v i * Ideal.div (Ideal.exp ((f i : EReal) - (μ : EReal))) (∑ k, Ideal.exp ((f k : EReal) - (μ : EReal))) := by
  have e1 : ∀ i, Ideal.exp (f i : EReal) = ((Real.exp (f i) : ℝ) : EReal) := fun i => rfl
  have e2 : ∀ i, Ideal.exp ((f i : EReal) - (μ : EReal)) = ((Real.exp (f i - μ) : ℝ) : EReal) := fun i => by
    rw [← EReal.coe_sub]; rfl
  have p1 : 0 < ∑ i, Real.exp (f i) := Finset.sum_pos (fun i _ => Real.exp_pos _) Finset.univ_nonempty
  have p2 : 0 < ∑ i, Real.exp (f i - μ) := Finset.sum_pos (fun i _ => Real.exp_pos _) Finset.univ_nonempty
  simp only [e1, e2, ← coe_sum]
  rw [Ideal.div_coe p1.ne', sum_mul_coe _ _ (by positivity)]
  refine Finset.sum_congr rfl fun i _ => ?_
  rw [Ideal.div_coe p2.ne', mul_comm _ (v i), mul_assoc, ← EReal.coe_mul, ← EReal.coe_mul]
  congr 2
  have hs : ∑ k, Real.exp (f k - μ) = (∑ k, Real.exp (f k)) * Real.exp (-μ) := by
    rw [Finset.sum_mul]
    exact Finset.sum_congr rfl fun k _ => by rw [← Real.exp_add, sub_eq_add_neg]
  rw [hs, sub_eq_add_neg, Real.exp_add]
  have := (Real.exp_pos (-μ)).ne'
  have := p1.ne'
  field_simp

end Cert.Softmax

end
-- ==== Proof.RefValue.lean ====
/-
  The reference's result, read at an index: the textbook softmax attention of one head, as sums over the extended
  reals.
-/
module

public import proofs.«01_k».proof.Proof.Gen.ReferenceIdeal.Run
public import Idealize.ShloMosaic.Lib.Pointwise
public import proofs.«01_k».proof.Proof.Softmax

@[expose] public section

noncomputable section

namespace Cert.ReferenceIdeal.Att

open Cert.ReferenceIdeal Cert.ReferenceIdeal.Gen Idealize.ShloMosaic Idealize.ShloMosaic.TcCoe Idealize.SL.Sem

/-- A whole argument, heads side by side in its lanes. -/
local notation "𝔸" => FVec Ideal S4x512x1024 FTy.f32

/-- The scores, scaled. -/
def scores (Q K : 𝔸) : FVec Ideal S4x16x512x512 .f32 :=
  mulf (Host.dotGeneral dot_S4x512x16x64_S4x512x16x64_S4x16x512x512_3_3_1_1_02_02 none
      (shapeCast _ Q shapeCasts_S4x512x1024_S4x512x16x64) (shapeCast _ K shapeCasts_S4x512x1024_S4x512x16x64))
    (broadcastInDim S4x16x512x512 ![] bcast_S_S4x16x512x512 (constant (F := Ideal) S_ .f32 0x3E000000#32))

/-- A row's greatest score. -/
def tops (s : FVec Ideal S4x16x512x512 .f32) : FVec Ideal S4x16x512 .f32 :=
  Host.reduce FloatOps.maximumf s (constant (F := Ideal) S_ .f32 0xFF800000#32) reducesTo_S4x16x512x512_S4x16x512_d3 h_S_

/-- A row's value, repeated along the row. -/
def along (t : FVec Ideal S4x16x512 .f32) : FVec Ideal S4x16x512x512 .f32 :=
  broadcastInDim S4x16x512x512 ![0, 1, 2, 3] bcast_S4x16x512x1_S4x16x512x512_0_1_2_3
    (broadcastInDim S4x16x512x1 ![0, 1, 2] bcast_S4x16x512_S4x16x512x1_0_1_2 t)

/-- A row's sum. -/
def sums (e : FVec Ideal S4x16x512x512 .f32) : FVec Ideal S4x16x512 .f32 :=
  Host.reduceAdd e (constant (F := Ideal) S_ .f32 0x00000000#32) reducesTo_S4x16x512x512_S4x16x512_d3 h_S_

/-- The exponentials of the scores below the row's greatest. -/
def exps (s : FVec Ideal S4x16x512x512 .f32) : FVec Ideal S4x16x512x512 .f32 := Host.exp (subf s (along (tops s)))

/-- The weights: the exponentials over their row's sum. -/
def weights (e : FVec Ideal S4x16x512x512 .f32) : FVec Ideal S4x16x512x512 .f32 := Host.divf e (along (sums e))

/-- The weighted values, back in the argument's layout. -/
def mixed (V : 𝔸) (w : FVec Ideal S4x16x512x512 .f32) : 𝔸 :=
  shapeCast _ (transpose S4x512x16x64 [0, 3, 1, 2]
    (Host.dotGeneral dot_S4x512x16x64_S4x16x512x512_S4x16x64x512_1_3_3_2_02_01 none
      (shapeCast _ V shapeCasts_S4x512x1024_S4x512x16x64) w)
    transposes_S4x16x64x512_S4x512x16x64_0_3_1_2) shapeCasts_S4x512x16x64_S4x512x1024

/-- Lane `l` of head `h`. -/
def lane (h : Fin 16) (l : Fin 64) : Fin 1024 := ⟨h.val * 64 + l.val, by omega⟩
/-- The head of a lane. -/
def headAt (n : Fin 1024) : Fin 16 := ⟨n.val / 64, by omega⟩

theorem scores_at (Q K : 𝔸) (b : Fin 4) (h : Fin 16) (i j : Fin 512) :
    scores Q K (ix4 b h i j) = (∑ l : Fin 64, Q (ix3 b i (lane h l)) * K (ix3 b j (lane h l))) * Ideal.ofBits .f32 0x3E000000#32 := by
  pointwise [scores]
  rfl

theorem tops_at (s : FVec Ideal S4x16x512x512 .f32) (b : Fin 4) (h : Fin 16) (i : Fin 512) :
    tops s (ix3 b h i) = Finset.fold max (Ideal.ofBits .f32 0xFF800000#32) (fun j : Fin 512 => s (ix4 b h i j)) Finset.univ := by
  pointwise [tops]

theorem exps_at (s : FVec Ideal S4x16x512x512 .f32) (b : Fin 4) (h : Fin 16) (i j : Fin 512) :
    exps s (ix4 b h i j) = Ideal.exp (s (ix4 b h i j) - tops s (ix3 b h i)) := by
  pointwise [exps, along]

theorem weights_at (e : FVec Ideal S4x16x512x512 .f32) (b : Fin 4) (h : Fin 16) (i j : Fin 512) :
    weights e (ix4 b h i j) = Ideal.div (e (ix4 b h i j)) (∑ k : Fin 512, e (ix4 b h i k)) := by
  pointwise [weights, along, sums]

theorem mixed_at (V : 𝔸) (w : FVec Ideal S4x16x512x512 .f32) (b : Fin 4) (i : Fin 512) (n : Fin 1024) :
    mixed V w (ix3 b i n) = ∑ j : Fin 512, V (ix3 b j n) * w (ix4 b (headAt n) i j) := by
  pointwise [mixed]
  rfl

/-- The reference's result. -/
def out (Q K V : 𝔸) : 𝔸 := mixed V (weights (exps (scores Q K)))

theorem ofBits_scale : Ideal.ofBits .f32 0x3E000000#32 = ((1 / 8 : ℝ) : EReal) := by
  simp [Ideal.ofBits, Ideal.ieee, -EReal.coe_mul]; norm_num
theorem ofBits_bot : Ideal.ofBits .f32 0xFF800000#32 = ⊥ := by
  simp [Ideal.ofBits, Ideal.ieee]

/-- Of real queries and keys, the scores are real. -/
theorem scores_real (Q K : 𝔸) (q k : S4x512x1024.Idx → ℝ) (hQ : ∀ i, Q i = (q i : EReal)) (hK : ∀ i, K i = (k i : EReal))
    (b : Fin 4) (h : Fin 16) (i j : Fin 512) :
    scores Q K (ix4 b h i j) = ((∑ l : Fin 64, q (ix3 b i (lane h l)) * (1 / 8) * k (ix3 b j (lane h l)) : ℝ) : EReal) := by
  rw [scores_at, ofBits_scale]
  simp only [hQ, hK, ← EReal.coe_mul, ← Softmax.coe_sum]
  rw [Finset.sum_mul]
  congr 1
  exact Finset.sum_congr rfl fun l _ => by ring

/-- The result at real queries and keys, without the shift by a row's greatest score. -/
theorem out_at (Q K V : 𝔸) (q k : S4x512x1024.Idx → ℝ) (hQ : ∀ i, Q i = (q i : EReal)) (hK : ∀ i, K i = (k i : EReal))
    (b : Fin 4) (i : Fin 512) (n : Fin 1024) :
    out Q K V (ix3 b i n) =
      Ideal.div (∑ j : Fin 512, Ideal.exp ((∑ l : Fin 64, q (ix3 b i (lane (headAt n) l)) * (1 / 8) * k (ix3 b j (lane (headAt n) l)) : ℝ) : EReal) * V (ix3 b j n))
        (∑ j : Fin 512, Ideal.exp ((∑ l : Fin 64, q (ix3 b i (lane (headAt n) l)) * (1 / 8) * k (ix3 b j (lane (headAt n) l)) : ℝ) : EReal)) := by
  unfold out
  simp only [mixed_at, weights_at, exps_at, tops_at, scores_real Q K q k hQ hK, ofBits_bot]
  obtain ⟨μ, hμ⟩ := Softmax.fold_max_coe (fun j : Fin 512 =>
    (∑ l : Fin 64, q (ix3 b i (lane (headAt n) l)) * (1 / 8) * k (ix3 b j (lane (headAt n) l)) : ℝ))
  rw [hμ]
  exact (Softmax.softmax _ μ _).symm

/-- What the reference's run leaves in its result is `out`. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = out (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.ReferenceIdeal.Att

end
-- ==== Proof.Finite.lean ====
/-
  The precondition read: every query and every key a device holds is a real number.
-/
module

public import proofs.«01_k».proof.Defs
public import Idealize.ShloMosaic.Lib.ReduceAll
public import Idealize.ShloMosaic.Lib.Affine
public import Idealize.ShloMosaic.Lib.Pointwise

@[expose] public section

noncomputable section

namespace Cert.Finite

open Idealize.ShloMosaic

theorem facts_kernel : Cert.Pre_finite_qk_KernelIdeal.Facts where
  bcast_S_S4x256x1024 := by decide
  reducesTo_S4x256x1024_S_d0_1_2 := by decide
  h_S_ := by decide

theorem facts_reference : Cert.Pre_finite_qk_ReferenceIdeal.Facts := by
  constructor <;> decide

/-- An extended real whose absolute value is below the infinity is a real. -/
theorem real_of_lt {x : EReal} (h : max x (-x) < ⊤) : ∃ r : ℝ, x = r := by
  induction x using EReal.rec with
  | bot => simp at h
  | coe r => exact ⟨r, rfl⟩
  | top => simp at h

open Cert.Pre_finite_qk_KernelIdeal in
/-- Where the test of every entry's absolute value against the infinity gives one, the entries are real. -/
theorem real_of_test [Cert.Pre_finite_qk_KernelIdeal.Facts] (X : FVec Ideal S4x256x1024 .f32) (j : S_.Idx)
    (h : Host.reduce IntOp.andi (cmpf .olt (Host.absf X) (broadcastInDim S4x256x1024 ![] Facts.bcast_S_S4x256x1024
      (constant (F := Ideal) S_ .f32 0x7F800000#32))) (constantI S_ 1 1#1) Facts.reducesTo_S4x256x1024_S_d0_1_2 Facts.h_S_ j = 1#1)
    (i : S4x256x1024.Idx) : ∃ r : ℝ, X i = (r : EReal) := by
  haveI : Subsingleton S_.Idx := ⟨fun a b => funext fun k => k.elim0⟩
  have h1 := Host.reduce_andi_all _ _ _ _ _ h i
  refine real_of_lt ?_
  have h2 : Ideal.cmp .olt (max (X i) (-(X i))) (Ideal.ofBits .f32 0x7F800000#32) = 1#1 := h1
  have h3 : Ideal.ofBits .f32 0x7F800000#32 = ⊤ := by simp [Ideal.ofBits, Ideal.ieee]
  rw [h3] at h2
  by_contra hn
  simp [Ideal.cmp, CmpDirection.ordered, hn] at h2

end Cert.Finite

end
-- ==== Proof.Agree.lean ====
/-
  The two results agree: device `c`'s result is its block of the reference's, where the queries and keys are real.
-/
module

public import proofs.«01_k».proof.Proof.KerValue
public import proofs.«01_k».proof.Proof.RefValue
public import proofs.«01_k».proof.Proof.Finite

@[expose] public section

noncomputable section

namespace Cert.Agree

open Idealize.ShloMosaic Idealize.ShloMosaic.TcCoe
open Cert.KernelIdeal Cert.KernelIdeal.Gen Cert.KernelIdeal.Val
open Cert.KernelIdeal.Att hiding ix3 ix4

/-- A whole array of the reference. -/
local notation "𝔸" => FVec Ideal Cert.ReferenceIdeal.S4x512x1024 FTy.f32

/-- Which block of a whole array device `c` holds: the one at its second coordinate, of the rows. -/
abbrev place (c : Dev nD) : (b : Fin 3) → Fin (Layout.cutSize [2, 2] ((![[], [1], []] : Fin 3 → List Nat) b)) :=
  Layout.meshBlock [2, 2] ![[], [1], []] c

/-- Device `c`'s block of a whole array. -/
abbrev blk (c : Dev nD) (X : 𝔸) : Vec Ideal S4x256x1024 .f32 :=
  Layout.blockN ⟨3, ![4, 256, 1024]⟩ ⟨3, ![4, 512, 1024]⟩ (place c) X

/-- Row `r` of the half of the rows at `y`. -/
def row (y : Fin 2) (r : Fin 256) : Fin 512 := ⟨256 * y.val + r.val, by omega⟩

theorem cut (c : Dev nD) : ((place c 0).val = 0 ∧ (place c 1).val = (py c).val) ∧ (place c 2).val = 0 := by
  revert c; decide

theorem blk_at (c : Dev nD) (X : 𝔸) (b : Fin 4) (r : Fin 256) (n : Fin 1024) :
    blk c X (ix3 b r n) = X (ix3 b (row (py c) r) n) := by
  show X _ = X _
  congr 1
  obtain ⟨⟨h0, h1⟩, h2⟩ := cut c
  funext a
  match a with
  | ⟨0, _⟩ => exact Fin.ext (by
      show (place c 0).val * 4 + b.val = b.val
      rw [h0]; omega)
  | ⟨1, _⟩ => exact Fin.ext (by
      show (place c 1).val * 256 + r.val = 256 * (py c).val + r.val
      rw [h1]; omega)
  | ⟨2, _⟩ => exact Fin.ext (by
      show (place c 2).val * 1024 + n.val = n.val
      rw [h2]; omega)

/-- A sum over all rows is the sum over the two halves of them. -/
theorem sum_rows (g : Fin 512 → EReal) : ∑ j : Fin 512, g j = (∑ r : Fin 256, g (row 0 r)) + ∑ r : Fin 256, g (row 1 r) := by
  refine (Fin.sum_univ_add (a := 256) (b := 256) g).trans ?_
  congr 1

theorem py_dev (x y : Fin 2) : py (dev x y) = y := by revert x y; decide

/-- Where every device's block is real, the whole array is. -/
theorem real_whole (X : 𝔸) (A : Dev nD → Vec Ideal S4x256x1024 .f32) (hA : ∀ c, A c = blk c X)
    (h : ∀ c i, ∃ r : ℝ, A c i = (r : EReal)) (i : Cert.ReferenceIdeal.S4x512x1024.Idx) : ∃ r : ℝ, X i = (r : EReal) := by
  obtain ⟨b, I, n, rfl⟩ : ∃ (b : Fin 4) (I : Fin 512) (n : Fin 1024), i = ix3 b I n :=
    ⟨i 0, i 1, i 2, by funext k; match k with | ⟨0, _⟩ => rfl | ⟨1, _⟩ => rfl | ⟨2, _⟩ => rfl⟩
  obtain ⟨r, hr⟩ := h (dev 0 ⟨I.val / 256, by omega⟩) (ix3 b ⟨I.val % 256, by omega⟩ n)
  refine ⟨r, ?_⟩
  rw [hA, blk_at, py_dev] at hr
  rw [← hr]
  congr 2
  exact Fin.ext (by show I.val = 256 * (I.val / 256) + I.val % 256; omega)

variable (m : (ℓ : Loc nD τ sig) → Buf (Elt Ideal) ℓ) (Q K V : 𝔸)

theorem tO_blk (hQ : ∀ c, aQ m c = blk c Q) (hK : ∀ c, aK m c = blk c K) (hV : ∀ c, aV m c = blk c V)
    (fQ : ∀ c i, ∃ r : ℝ, aQ m c i = (r : EReal)) (fK : ∀ c i, ∃ r : ℝ, aK m c i = (r : EReal)) (c : Dev nD) :
    tO m c = blk c (Cert.ReferenceIdeal.Att.out Q K V) := by
  choose q hq using real_whole Q (aQ m) hQ fQ
  choose k hk using real_whole K (aK m) hK fK
  funext i
  obtain ⟨b, r, n, rfl⟩ : ∃ (b : Fin 4) (r : Fin 256) (n : Fin 1024), i = ix3 b r n :=
    ⟨i 0, i 1, i 2, by funext k; match k with | ⟨0, _⟩ => rfl | ⟨1, _⟩ => rfl | ⟨2, _⟩ => rfl⟩
  rw [tO_at, blk_at, Cert.ReferenceIdeal.Att.out_at Q K V q k hq hk, sum_rows, sum_rows]
  have hex : ∀ s j, ex m (sd n) (py c) s b (headAt n) r j = Ideal.exp ((∑ l : Fin 64,
      q (ix3 b (row (py c) r) (lane (headAt n) l)) * (1 / 8) * k (ix3 b (row s j) (lane (headAt n) l)) : ℝ) : EReal) := by
    intro s j
    unfold ex
    congr 1
    rw [Softmax.coe_sum]
    refine Finset.sum_congr rfl fun l _ => ?_
    rw [hQ, hK, blk_at, blk_at, py_dev, py_dev, hq, hk, EReal.coe_mul, EReal.coe_mul]
    unfold eighth
    rw [Cert.ReferenceIdeal.Att.ofBits_scale]
  have hv : ∀ s j, aV m (dev (sd n) s) (ix3 b j n) = V (ix3 b (row s j) n) := by
    intro s j
    rw [hV, blk_at, py_dev]
  unfold entry
  simp only [hex, hv]
  rfl

end Cert.Agree

end
-- ==== Proof.lean ====
/-
  The claim: both kernel programs run to quiescence with their arguments kept, so does the reference, and every
  device's result is its block of the reference's, where the queries and keys are real.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem

variable {F : FTy → Type} [FloatOps F]

/-- The kernel's frame, over any floats. -/
theorem kept (m : (ℓ : Loc Cert.KernelIdeal.nD Cert.KernelIdeal.τ Cert.KernelIdeal.sig) → Buf (Elt F) ℓ)
    (g : Dev Cert.KernelIdeal.nD → PrngReg) :
    θ_run Cert.KernelIdeal.defs (onTc (τ := Cert.KernelIdeal.τ) (Cert.KernelIdeal.main (F := F))) ⟨m, fun _ => 0, g⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0 :=
  (θ_run Cert.KernelIdeal.defs _ _).mono
    (fun _ h => ⟨fun c => ⟨(h.1 c).2.1, (h.1 c).2.2.1, (h.1 c).2.2.2.1⟩, h.2⟩) (Cert.KernelIdeal.Att.run_main m g)

theorem frame_kernel : Cert.quiescent_Kernel := fun m g _ => kept (F := Bits) m g
theorem frame_kernelIdeal : Cert.quiescent_KernelIdeal := fun m g _ => kept (F := Ideal) m g
theorem frame_kernelIdeal_pre [Cert.Pre_finite_qk_KernelIdeal.Facts] :
    Cert.quiescent_KernelIdeal_pre_finite_qk_KernelIdeal := fun m g _ => kept (F := Ideal) m g

/-- The reference's frame: its run writes no argument, and it has no semaphore. -/
theorem kept_reference (m : (ℓ : Loc Cert.ReferenceIdeal.nD Cert.ReferenceIdeal.τ Cert.ReferenceIdeal.sig) → Buf (Elt Ideal) ℓ)
    (g : Dev Cert.ReferenceIdeal.nD → PrngReg) :
    θ_run Cert.ReferenceIdeal.defs (onTc (τ := Cert.ReferenceIdeal.τ) (Cert.ReferenceIdeal.main (F := Ideal))) ⟨m, fun _ => 0, g⟩ fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0 :=
  (θ_run Cert.ReferenceIdeal.defs _ _).mono
    (fun r h => ⟨fun c => (h c).2, sem_eq_zero_of_no_sems (by decide) r.2⟩) (Cert.ReferenceIdeal.Att.run_out m g)

theorem frame_reference : Cert.quiescent_ReferenceIdeal := fun m g _ => kept_reference m g
theorem frame_reference_pre [Cert.Pre_finite_qk_ReferenceIdeal.Facts] :
    Cert.quiescent_ReferenceIdeal_pre_finite_qk_ReferenceIdeal := fun m g _ => kept_reference m g

/-- The precondition at one device: its queries and its keys are real. -/
theorem real_blocks [Cert.Pre_finite_qk_KernelIdeal.Facts]
    (m : (ℓ : Loc Cert.KernelIdeal.nD Cert.KernelIdeal.τ Cert.KernelIdeal.sig) → Buf (Elt Ideal) ℓ)
    (h : Cert.Pre_KernelIdeal_finite_qk_KernelIdeal m) (c : Dev Cert.KernelIdeal.nD) :
    (∀ i, ∃ r : ℝ, Cert.KernelIdeal.Att.aQ m c i = (r : EReal)) ∧ ∀ i, ∃ r : ℝ, Cert.KernelIdeal.Att.aK m c i = (r : EReal) := by
  have h0 := IntOp.andi_eq_one.1 (congrFun (h c) ix0)
  exact ⟨Cert.Finite.real_of_test _ ix0 h0.1, Cert.Finite.real_of_test _ ix0 h0.2⟩

/-- Every device's result is its block of the reference's. -/
theorem values [Cert.Pre_finite_qk_KernelIdeal.Facts] :
    Cert.algebraic_KernelIdeal_ReferenceIdeal_pre_finite_qk_KernelIdeal := by
  intro m g m' g' hpre hargs
  refine ⟨Cert.ReferenceIdeal.Att.out (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun r h c => ?_) (Cert.KernelIdeal.Att.run_main m g)
    obtain ⟨-, h0, h1, h2, hO⟩ := h.1 c
    exact ⟨hO.trans (Cert.Agree.tO_blk m _ _ _ (fun c => (hargs c).1) (fun c => (hargs c).2.1) (fun c => (hargs c).2.2)
      (fun c => (real_blocks m hpre c).1) (fun c => (real_blocks m hpre c).2) c), h0, h1, h2⟩
  · exact (θ_run Cert.ReferenceIdeal.defs _ _).mono (fun r h => h 0) (Cert.ReferenceIdeal.Att.run_out m' g')

theorem claim : Cert.Claim :=
  ⟨Cert.Kernel.Gen.facts, Cert.KernelIdeal.Gen.facts, Cert.ReferenceIdeal.Gen.facts, Cert.Finite.facts_kernel,
    Cert.Finite.facts_reference, frame_kernel, frame_kernelIdeal,
    @frame_kernelIdeal_pre Cert.Finite.facts_kernel, frame_reference,
    @frame_reference_pre Cert.Finite.facts_reference, trivial, @values Cert.Finite.facts_kernel⟩

end Cert.Proof

end
